-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_keeps_Kernel [hPre_pi_keeps_Kernel : Cert.Pre_pi_keeps_Kernel.Facts] (m : (ℓ : Loc Cert.Kernel.nD Cert.Kernel.τ Cert.Kernel.sig) → Buf (Elt Bits) ℓ) : Prop :=
  ∀ c : Dev Cert.Kernel.nD,
    (Cert.Pre_pi_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_keeps_Kernel [hPre_pi_keeps_Kernel : Cert.Pre_pi_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_keeps_ReferenceIdeal [hPre_pi_keeps_ReferenceIdeal : Cert.Pre_pi_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_keeps_Kernel [hKernel : Cert.Kernel.Facts] [hPre_pi_keeps_Kernel : Cert.Pre_pi_keeps_Kernel.Facts] : Prop :=
  ∀ (m : (ℓ : Loc Cert.Kernel.nD Cert.Kernel.τ Cert.Kernel.sig) → Buf (Elt Bits) ℓ) (g : Dev Cert.Kernel.nD → PrngReg), Pre_Kernel_pi_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_keeps_Kernel [hKernelIdeal : Cert.KernelIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_keeps_ReferenceIdeal [hReferenceIdeal : Cert.ReferenceIdeal.Facts] [hPre_pi_keeps_ReferenceIdeal : Cert.Pre_pi_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_keeps_Kernel [hKernelIdeal : Cert.KernelIdeal.Facts] [hReferenceIdeal : Cert.ReferenceIdeal.Facts] [hPre_pi_keeps_Kernel : Cert.Pre_pi_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_keeps_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_keeps_Kernel : Cert.Pre_pi_keeps_Kernel.Facts) (hPre_pi_swaps_ReferenceIdeal : Cert.Pre_pi_swaps_ReferenceIdeal.Facts) (hPre_pi_keeps_ReferenceIdeal : Cert.Pre_pi_keeps_ReferenceIdeal.Facts),
    quiescent_Kernel (hKernel := hKernel) (hPre_pi_swaps_Kernel := hPre_pi_swaps_Kernel)
    ∧ quiescent_Kernel_pre_pi_keeps_Kernel (hKernel := hKernel) (hPre_pi_keeps_Kernel := hPre_pi_keeps_Kernel)
    ∧ quiescent_KernelIdeal (hKernelIdeal := hKernelIdeal) (hPre_pi_swaps_Kernel := hPre_pi_swaps_Kernel)
    ∧ quiescent_KernelIdeal_pre_pi_keeps_Kernel (hKernelIdeal := hKernelIdeal) (hPre_pi_keeps_Kernel := hPre_pi_keeps_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_keeps_ReferenceIdeal (hReferenceIdeal := hReferenceIdeal) (hPre_pi_keeps_ReferenceIdeal := hPre_pi_keeps_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_keeps_Kernel (hKernelIdeal := hKernelIdeal) (hReferenceIdeal := hReferenceIdeal) (hPre_pi_keeps_Kernel := hPre_pi_keeps_Kernel)
-- ==== Pre_pi_keeps_Kernel.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_keeps_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_pi_swaps_Kernel.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_pi_swaps_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x1024x1024 : Shape := ⟨3, ![1, 1024, 1024]⟩
abbrev S2 : Shape := ⟨1, ![2]⟩
abbrev S1024x1024 : Shape := ⟨2, ![1024, 1024]⟩
abbrev S8 : Shape := ⟨1, ![8]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x1024x1024, .bf16⟩
  | .hbm, ⟨1, _⟩ => ⟨S2, .i32⟩
  | .hbm, ⟨2, _⟩ => ⟨S1x1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .smem, ⟨0, _⟩ => ⟨S2, .i32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.subi c1_i32_2 v2
  let c2_i32_5 : BitVec 32 := 2#32
  let v12 : BitVec 32 := Scalar.muli v10 c2_i32_5
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v14 : BitVec 32 := Scalar.muli v5 c1_i32_6
  let v15 : BitVec 32 := Scalar.addi v13 v14
  v15.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v16 : BitVec 32 := Scalar.muli v2 c2_i32_8
  let v17 : BitVec 32 := Scalar.addi c0_i32_9 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_3 v5
  let c1_i32_10 : BitVec 32 := 1#32
  let v18 : BitVec 32 := Scalar.muli v11 c1_i32_10
  let v19 : BitVec 32 := Scalar.addi v17 v18
  v19.toNat
def k0_off2 (d0 : Dev nD) (c0_i32_15 : BitVec 32) : Fin 3 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v20 : BitVec 32 := Scalar.muli v5 c512_i32
  let v26 : BitVec 32 := Scalar.addi v20 c0_i32_15
  let v27 : Index := Scalar.indexCast v26
  let c0_16 : Index := 0#32
  ![0, v27.toNat, 0]
def k0_off3 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v20 : BitVec 32 := Scalar.muli v5 c512_i32
  let v26 : BitVec 32 := Scalar.addi v20 c0_i32_15
  let v30 : Index := Scalar.indexCast v26
  let c0_17 : Index := 0#32
  ![v30.toNat, 0]
def k0_off4 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v20 : BitVec 32 := Scalar.muli v5 c512_i32
  let v26 : BitVec 32 := Scalar.addi v20 c0_i32_15
  let c0_i32_23 : BitVec 32 := 0#32
  ![v26.toNat, 0]
def k0_dev3 (d0 : Dev nD) (v7 : BitVec 32) : Nat :=
  let c0_i32_21 : BitVec 32 := 0#32
  let c2_i32_20 : BitVec 32 := 2#32
  let v34 : BitVec 32 := Scalar.muli v7 c2_i32_20
  let v35 : BitVec 32 := Scalar.addi c0_i32_21 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v36 : BitVec 32 := Scalar.muli v5 c1_i32_22
  let v37 : BitVec 32 := Scalar.addi v35 v36
  v37.toNat
def k0_cond1 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 1 := Scalar.cmpi .ne v7 v2
  let v21 : BitVec 32 := Scalar.extui v8
  let c0_i32_12 : BitVec 32 := 0#32
  let v22 : BitVec 1 := Scalar.cmpi .ne v21 c0_i32_12
  v22

def k0_dev4 (d0 : Dev nD) (v7 : BitVec 32) : Nat :=
  let c0_i32_31 : BitVec 32 := 0#32
  let c2_i32_30 : BitVec 32 := 2#32
  let v52 : BitVec 32 := Scalar.muli v7 c2_i32_30
  let v53 : BitVec 32 := Scalar.addi c0_i32_31 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v54 : BitVec 32 := Scalar.muli v5 c1_i32_32
  let v55 : BitVec 32 := Scalar.addi v53 v54
  v55.toNat
def k0_dev5 (d0 : Dev nD) (v7 : BitVec 32) : Nat :=
  let c0_i32_41 : BitVec 32 := 0#32
  let c2_i32_40 : BitVec 32 := 2#32
  let v70 : BitVec 32 := Scalar.muli v7 c2_i32_40
  let v71 : BitVec 32 := Scalar.addi c0_i32_41 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v72 : BitVec 32 := Scalar.muli v5 c1_i32_42
  let v73 : BitVec 32 := Scalar.addi v71 v72
  v73.toNat
def k0_dev6 (d0 : Dev nD) (v7 : BitVec 32) : Nat :=
  let c0_i32_50 : BitVec 32 := 0#32
  let c2_i32_49 : BitVec 32 := 2#32
  let v88 : BitVec 32 := Scalar.muli v7 c2_i32_49
  let v89 : BitVec 32 := Scalar.addi c0_i32_50 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v90 : BitVec 32 := Scalar.muli v5 c1_i32_51
  let v91 : BitVec 32 := Scalar.addi v89 v90
  v91.toNat
def k0_dev7 (d0 : Dev nD) (v7 : BitVec 32) : Nat :=
  let c0_i32_59 : BitVec 32 := 0#32
  let c2_i32_58 : BitVec 32 := 2#32
  let v106 : BitVec 32 := Scalar.muli v7 c2_i32_58
  let v107 : BitVec 32 := Scalar.addi c0_i32_59 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v108 : BitVec 32 := Scalar.muli v5 c1_i32_60
  let v109 : BitVec 32 := Scalar.addi v107 v108
  v109.toNat
def k0_dev8 (d0 : Dev nD) (v7 : BitVec 32) : Nat :=
  let c0_i32_68 : BitVec 32 := 0#32
  let c2_i32_67 : BitVec 32 := 2#32
  let v124 : BitVec 32 := Scalar.muli v7 c2_i32_67
  let v125 : BitVec 32 := Scalar.addi c0_i32_68 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v126 : BitVec 32 := Scalar.muli v5 c1_i32_69
  let v127 : BitVec 32 := Scalar.addi v125 v126
  v127.toNat
def k0_dev9 (d0 : Dev nD) (v7 : BitVec 32) : Nat :=
  let c0_i32_77 : BitVec 32 := 0#32
  let c2_i32_76 : BitVec 32 := 2#32
  let v142 : BitVec 32 := Scalar.muli v7 c2_i32_76
  let v143 : BitVec 32 := Scalar.addi c0_i32_77 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v144 : BitVec 32 := Scalar.muli v5 c1_i32_78
  let v145 : BitVec 32 := Scalar.addi v143 v144
  v145.toNat
def k0_dev10 (d0 : Dev nD) (v7 : BitVec 32) : Nat :=
  let c0_i32_86 : BitVec 32 := 0#32
  let c2_i32_85 : BitVec 32 := 2#32
  let v160 : BitVec 32 := Scalar.muli v7 c2_i32_85
  let v161 : BitVec 32 := Scalar.addi c0_i32_86 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v162 : BitVec 32 := Scalar.muli v5 c1_i32_87
  let v163 : BitVec 32 := Scalar.addi v161 v162
  v163.toNat

def k0_chk1 (d0 : Dev nD) (v7 : BitVec 32) : Prop :=
  (∀ (k0_h1 : k0_cond1 d0 v7 = 1#1), (k0_dev3 d0 v7) < nD) ∧
  (∀ (k0_h1 : k0_cond1 d0 v7 = 1#1), (k0_dev4 d0 v7) < nD) ∧
  (∀ (k0_h1 : k0_cond1 d0 v7 = 1#1), (k0_dev5 d0 v7) < nD) ∧
  (∀ (k0_h1 : k0_cond1 d0 v7 = 1#1), (k0_dev6 d0 v7) < nD) ∧
  (∀ (k0_h1 : k0_cond1 d0 v7 = 1#1), (k0_dev7 d0 v7) < nD) ∧
  (∀ (k0_h1 : k0_cond1 d0 v7 = 1#1), (k0_dev8 d0 v7) < nD) ∧
  (∀ (k0_h1 : k0_cond1 d0 v7 = 1#1), (k0_dev9 d0 v7) < nD) ∧
  (∀ (k0_h1 : k0_cond1 d0 v7 = 1#1), (k0_dev10 d0 v7) < nD)
theorem k0_dev3_lt : ∀ (d0 : Dev nD) (v7 : BitVec 32) (k0_hw1 : k0_chk1 d0 v7), ∀ (k0_h1 : k0_cond1 d0 v7 = 1#1), (k0_dev3 d0 v7) < nD := fun d0 v7 k0_hw1 k0_h1 => k0_hw1.1 k0_h1
theorem k0_dev4_lt : ∀ (d0 : Dev nD) (v7 : BitVec 32) (k0_hw1 : k0_chk1 d0 v7), ∀ (k0_h1 : k0_cond1 d0 v7 = 1#1), (k0_dev4 d0 v7) < nD := fun d0 v7 k0_hw1 k0_h1 => k0_hw1.2.1 k0_h1
theorem k0_dev5_lt : ∀ (d0 : Dev nD) (v7 : BitVec 32) (k0_hw1 : k0_chk1 d0 v7), ∀ (k0_h1 : k0_cond1 d0 v7 = 1#1), (k0_dev5 d0 v7) < nD := fun d0 v7 k0_hw1 k0_h1 => k0_hw1.2.2.1 k0_h1
theorem k0_dev6_lt : ∀ (d0 : Dev nD) (v7 : BitVec 32) (k0_hw1 : k0_chk1 d0 v7), ∀ (k0_h1 : k0_cond1 d0 v7 = 1#1), (k0_dev6 d0 v7) < nD := fun d0 v7 k0_hw1 k0_h1 => k0_hw1.2.2.2.1 k0_h1
theorem k0_dev7_lt : ∀ (d0 : Dev nD) (v7 : BitVec 32) (k0_hw1 : k0_chk1 d0 v7), ∀ (k0_h1 : k0_cond1 d0 v7 = 1#1), (k0_dev7 d0 v7) < nD := fun d0 v7 k0_hw1 k0_h1 => k0_hw1.2.2.2.2.1 k0_h1
theorem k0_dev8_lt : ∀ (d0 : Dev nD) (v7 : BitVec 32) (k0_hw1 : k0_chk1 d0 v7), ∀ (k0_h1 : k0_cond1 d0 v7 = 1#1), (k0_dev8 d0 v7) < nD := fun d0 v7 k0_hw1 k0_h1 => k0_hw1.2.2.2.2.2.1 k0_h1
theorem k0_dev9_lt : ∀ (d0 : Dev nD) (v7 : BitVec 32) (k0_hw1 : k0_chk1 d0 v7), ∀ (k0_h1 : k0_cond1 d0 v7 = 1#1), (k0_dev9 d0 v7) < nD := fun d0 v7 k0_hw1 k0_h1 => k0_hw1.2.2.2.2.2.2.1 k0_h1
theorem k0_dev10_lt : ∀ (d0 : Dev nD) (v7 : BitVec 32) (k0_hw1 : k0_chk1 d0 v7), ∀ (k0_h1 : k0_cond1 d0 v7 = 1#1), (k0_dev10 d0 v7) < nD := fun d0 v7 k0_hw1 k0_h1 => k0_hw1.2.2.2.2.2.2.2 k0_h1

def k0_off5 (d0 : Dev nD) (c0_i32_97 : BitVec 32) : Fin 3 → Nat :=
  let c0_i32_99 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v20 : BitVec 32 := Scalar.muli v5 c512_i32
  let v178 : BitVec 32 := Scalar.addi v20 c0_i32_97
  let c0_i32_105 : BitVec 32 := 0#32
  ![0, v178.toNat, 0]
def k0_dev11 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v180 : BitVec 32 := Scalar.muli v2 c2_i32_102
  let v181 : BitVec 32 := Scalar.addi c0_i32_103 v180
  let c1_i32_98 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v179 : BitVec 32 := Scalar.subi c1_i32_98 v5
  let c1_i32_104 : BitVec 32 := 1#32
  let v182 : BitVec 32 := Scalar.muli v179 c1_i32_104
  let v183 : BitVec 32 := Scalar.addi v181 v182
  v183.toNat
def k0_dev12 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_123 : BitVec 32 := 2#32
  let v206 : BitVec 32 := Scalar.muli v2 c2_i32_123
  let v207 : BitVec 32 := Scalar.addi c0_i32_124 v206
  let c1_i32_119 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v205 : BitVec 32 := Scalar.subi c1_i32_119 v5
  let c1_i32_125 : BitVec 32 := 1#32
  let v208 : BitVec 32 := Scalar.muli v205 c1_i32_125
  let v209 : BitVec 32 := Scalar.addi v207 v208
  v209.toNat
def k0_dev13 (d0 : Dev nD) : Nat :=
  let c0_i32_145 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_144 : BitVec 32 := 2#32
  let v232 : BitVec 32 := Scalar.muli v2 c2_i32_144
  let v233 : BitVec 32 := Scalar.addi c0_i32_145 v232
  let c1_i32_140 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v231 : BitVec 32 := Scalar.subi c1_i32_140 v5
  let c1_i32_146 : BitVec 32 := 1#32
  let v234 : BitVec 32 := Scalar.muli v231 c1_i32_146
  let v235 : BitVec 32 := Scalar.addi v233 v234
  v235.toNat
def k0_dev14 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v258 : BitVec 32 := Scalar.muli v2 c2_i32_165
  let v259 : BitVec 32 := Scalar.addi c0_i32_166 v258
  let c1_i32_161 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v257 : BitVec 32 := Scalar.subi c1_i32_161 v5
  let c1_i32_167 : BitVec 32 := 1#32
  let v260 : BitVec 32 := Scalar.muli v257 c1_i32_167
  let v261 : BitVec 32 := Scalar.addi v259 v260
  v261.toNat
def k0_dev15 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v284 : BitVec 32 := Scalar.muli v2 c2_i32_186
  let v285 : BitVec 32 := Scalar.addi c0_i32_187 v284
  let c1_i32_182 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v283 : BitVec 32 := Scalar.subi c1_i32_182 v5
  let c1_i32_188 : BitVec 32 := 1#32
  let v286 : BitVec 32 := Scalar.muli v283 c1_i32_188
  let v287 : BitVec 32 := Scalar.addi v285 v286
  v287.toNat
def k0_dev16 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v310 : BitVec 32 := Scalar.muli v2 c2_i32_207
  let v311 : BitVec 32 := Scalar.addi c0_i32_208 v310
  let c1_i32_203 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v309 : BitVec 32 := Scalar.subi c1_i32_203 v5
  let c1_i32_209 : BitVec 32 := 1#32
  let v312 : BitVec 32 := Scalar.muli v309 c1_i32_209
  let v313 : BitVec 32 := Scalar.addi v311 v312
  v313.toNat
def k0_dev17 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v336 : BitVec 32 := Scalar.muli v2 c2_i32_228
  let v337 : BitVec 32 := Scalar.addi c0_i32_229 v336
  let c1_i32_224 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v335 : BitVec 32 := Scalar.subi c1_i32_224 v5
  let c1_i32_230 : BitVec 32 := 1#32
  let v338 : BitVec 32 := Scalar.muli v335 c1_i32_230
  let v339 : BitVec 32 := Scalar.addi v337 v338
  v339.toNat
def k0_dev18 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v362 : BitVec 32 := Scalar.muli v2 c2_i32_249
  let v363 : BitVec 32 := Scalar.addi c0_i32_250 v362
  let c1_i32_245 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v361 : BitVec 32 := Scalar.subi c1_i32_245 v5
  let c1_i32_251 : BitVec 32 := 1#32
  let v364 : BitVec 32 := Scalar.muli v361 c1_i32_251
  let v365 : BitVec 32 := Scalar.addi v363 v364
  v365.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .bf16⟩
  | .hbm, ⟨14, _⟩ => ⟨S2x1024x1024, .f32⟩
  | .hbm, ⟨15, _⟩ => ⟨S2x1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Same.lean ====
/-
# The two readings of the kernel are one program

The kernel as given and the kernel as printed for exact arithmetic differ in no operation: nothing was replaced in it.
So a run of the second, at whatever floats, is a run of the first.
-/
module

public import proofs.«01_k».proof.Kernel
public import proofs.«01_k».proof.KernelIdeal

@[expose] public section

namespace Cert.KIProof

open Idealize.ShloMosaic Idealize.SL.Sem

variable {F : FTy → Type} [FloatOps F] [Cert.Kernel.Facts] [Cert.KernelIdeal.Facts]

/-- The two kernels' functions are the same function. -/
theorem body_same : @Cert.Kernel.cc0_body F _ = @Cert.KernelIdeal.cc0_body F _ := rfl

/-- The two tables of kernel functions are the same table. -/
theorem defs₀_same : Cert.Kernel.defs₀ (F := F) = Cert.KernelIdeal.defs₀ (F := F) := by
  refine congrArg Defs.onTc (funext fun ℓ => funext fun x => ?_)
  match ℓ, x with
  | ⟨0, _⟩, (t, s) => rfl
  | ⟨_ + 1, h⟩, _ => exact absurd h (Nat.not_lt.2 (Nat.le_add_left _ _))

/-- The two tables of functions, with the launch's, are the same table. -/
theorem defs_same : Cert.Kernel.defs (F := F) = Cert.KernelIdeal.defs (F := F) :=
  congrArg (Pipeline.defs (Cert.KernelIdeal.pcfgs (F := F))) defs₀_same

/-- The two programs' mains are the same. -/
theorem main_same : Cert.Kernel.main (F := F) = Cert.KernelIdeal.main (F := F) := rfl

/-- What every run of the second kernel ends with, every run of the first ends with. -/
theorem run_same (s Q) (h : θ_run (Cert.KernelIdeal.defs (F := F)) (onTc (τ := Cert.KernelIdeal.τ) Cert.KernelIdeal.main) s Q) :
    θ_run (Cert.Kernel.defs (F := F)) (onTc (τ := Cert.Kernel.τ) Cert.Kernel.main) s Q := by
  rw [defs_same]
  exact h

end Cert.KIProof
-- ==== Proof.Slabs.lean ====
/-
# The sixteen row slabs of the buffers, and what the transfers leave in them

Each of the buffers the transfers touch (the send buffer, the receive buffer, the result) is cut by rows into
sixteen slabs of 64 rows: half `h` (two of them, 512 rows each) and chunk `j` (eight per half). This file states that
the slabs partition a buffer, and what a store or a copy of one slab leaves on it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Pipeline.Value
public import Idealize.ShloMosaic.Lib.Tactic

@[expose] public section

noncomputable section

namespace Cert.KIProof

open Cert.KernelIdeal Cert.KernelIdeal.Gen

open Idealize.ShloMosaic
open Idealize.ShloMosaic.TcCoe

variable {F : FTy → Type} [FloatOps F]

/-! ## The buffers and their slabs -/

/-- The send buffer, the receive buffer, the staged block of `x`, and the result. -/
abbrev sB : Memref sig .tc .vmem S1024x1024 .bf16 := Memref.whole cc0_scratch0
abbrev rB : Memref sig .tc .vmem S1024x1024 .bf16 := Memref.whole cc0_scratch1
abbrev xB : Memref sig .tc .vmem S1x1024x1024 .bf16 := Memref.whole cc0_stg1_0
abbrev oB : Memref sig .tc .hbm S1x1024x1024 .bf16 := Memref.whole main_v1

/-- Slab `(h, j)` lies within a 1024×1024 buffer, -/
theorem inb2 (h : Fin 2) (j : Fin 8) : ∀ a, (![512 * h.val + 64 * j.val, 0] : Fin 2 → Nat) a + S64x1024.size a ≤ S1024x1024.size a := by
  revert h j; decide
/-- and within a 1×1024×1024 one. -/
theorem inb3 (h : Fin 2) (j : Fin 8) : ∀ a, (![0, 512 * h.val + 64 * j.val, 0] : Fin 3 → Nat) a + S1x64x1024.size a ≤ S1x1024x1024.size a := by
  revert h j; decide

/-- The rows `512 h + 64 j … + 64` of a 1024×1024 buffer, and of a 1×1024×1024 one. -/
abbrev rect2 (h : Fin 2) (j : Fin 8) : Rect S1024x1024 := Rect.unit (s := S1024x1024) ![512 * h.val + 64 * j.val, 0] S64x1024.size (inb2 h j)
abbrev rect3 (h : Fin 2) (j : Fin 8) : Rect S1x1024x1024 := Rect.unit (s := S1x1024x1024) ![0, 512 * h.val + 64 * j.val, 0] S1x64x1024.size (inb3 h j)

/-- Slab `(h, j)` of the send buffer, of the receive buffer, and of the result (with its unit axis dropped). -/
abbrev slS (h : Fin 2) (j : Fin 8) : Memref sig .tc .vmem S64x1024 .bf16 := sB.slice (rect2 h j) (fun _ => rfl)
abbrev slR (h : Fin 2) (j : Fin 8) : Memref sig .tc .vmem S64x1024 .bf16 := rB.slice (rect2 h j) (fun _ => rfl)
abbrev slO (h : Fin 2) (j : Fin 8) : Memref sig .tc .hbm S64x1024 .bf16 := (oB.slice (rect3 h j) (fun _ => rfl)).squeeze S64x1024 squeezes_S1x64x1024_S64x1024
/-- The whole result with its unit axis dropped. -/
abbrev wO : Memref sig .tc .hbm S1024x1024 .bf16 :=
  (oB.slice (Rect.unit (s := S1x1024x1024) ![0, 0, 0] S1x1024x1024.size inb_S1x1024x1024_S1x1024x1024_0_0_0) (fun _ => rfl)).squeeze S1024x1024 squeezes_S1x1024x1024_S1024x1024

/-- Which elements a slab has: those whose row's quotient by 64 is `8 h + j`. -/
theorem mem_slS {h : Fin 2} {j : Fin 8} {i : S1024x1024.Idx} : i ∈ (slS h j).view.set ↔ (i 0).val / 64 = 8 * h.val + j.val := by
  refine (Finset.ext_iff.mp (View.set_slice_whole cc0_scratch0 (rect2 h j)) i).trans (Rect.mem_set_unit.trans ?_)
  constructor
  · intro H; have := H 0; simp at this; omega
  · intro H a
    have h1 := (i 1).isLt
    have hs : S1024x1024.size 1 = 1024 := rfl
    fin_cases a <;> simp <;> omega

/-- The same for the receive buffer, -/
theorem mem_slR {h : Fin 2} {j : Fin 8} {i : S1024x1024.Idx} : i ∈ (slR h j).view.set ↔ (i 0).val / 64 = 8 * h.val + j.val := by
  refine (Finset.ext_iff.mp (View.set_slice_whole cc0_scratch1 (rect2 h j)) i).trans (Rect.mem_set_unit.trans ?_)
  constructor
  · intro H; have := H 0; simp at this; omega
  · intro H a
    have h1 := (i 1).isLt
    have hs : S1024x1024.size 1 = 1024 := rfl
    fin_cases a <;> simp <;> omega

/-- and for the result, by its second index. -/
theorem mem_slO {h : Fin 2} {j : Fin 8} {i : S1x1024x1024.Idx} : i ∈ (slO h j).view.set ↔ (i 1).val / 64 = 8 * h.val + j.val := by
  refine (Finset.ext_iff.mp ((View.set_reshape ((View.whole main_v1).slice (rect3 h j)) squeezes_S1x64x1024_S64x1024.numel_eq).trans
    (View.set_slice_whole main_v1 (rect3 h j))) i).trans (Rect.mem_set_unit.trans ?_)
  constructor
  · intro H; have := H 1; simp at this; omega
  · intro H a
    have h0 : (i 0).val < 1 := (i 0).isLt
    have h2 : (i 2).val < 1024 := (i 2).isLt
    match a with
    | ⟨0, _⟩ => exact ⟨Nat.zero_le _, h0⟩
    | ⟨1, _⟩ => show 512 * h.val + 64 * j.val ≤ (i 1).val ∧ (i 1).val < 512 * h.val + 64 * j.val + 64; omega
    | ⟨2, _⟩ => exact ⟨Nat.zero_le _, by show (i 2).val < 0 + 1024; omega⟩

/-- The elements of slab `(h, j)` of a 1024×1024 buffer, and of the result. -/
abbrev elS (h : Fin 2) (j : Fin 8) : Finset S1024x1024.Idx := (slS h j).view.set
abbrev elO (h : Fin 2) (j : Fin 8) : Finset S1x1024x1024.Idx := (slO h j).view.set

/-- The slabs cover the buffer and no two meet. -/
theorem slS_cover : (Finset.univ : Finset (Fin 2 × Fin 8)).biUnion (fun p => elS p.1 p.2) = Finset.univ := by
  ext i
  simp only [Finset.mem_biUnion, Finset.mem_univ, true_and, iff_true]
  have hi : (i 0).val < 1024 := (i 0).isLt
  have h1 : (i 0).val / 512 < 2 := by omega
  have h2 : (i 0).val / 64 % 8 < 8 := by omega
  have h3 : i ∈ elS ⟨(i 0).val / 512, h1⟩ ⟨(i 0).val / 64 % 8, h2⟩ := mem_slS.mpr (by dsimp only; omega)
  exact ⟨(⟨_, h1⟩, ⟨_, h2⟩), h3⟩
/-- No two slabs of the send buffer meet. -/
theorem slS_disj (p : Fin 2 × Fin 8) (_ : p ∈ Finset.univ) (p' : Fin 2 × Fin 8) (_ : p' ∈ Finset.univ) (h : p ≠ p') :
    Disjoint (elS p.1 p.2) (elS p'.1 p'.2) := by
  refine Finset.disjoint_left.mpr fun i hi hi' => h ?_
  have h1 := mem_slS.mp hi; have h2 := mem_slS.mp hi'
  have := p.1.isLt; have := p.2.isLt; have := p'.1.isLt; have := p'.2.isLt
  exact Prod.ext (Fin.ext (by omega)) (Fin.ext (by omega))
/-- The elements of slab `(h, j)` of the receive buffer are those of the send buffer's. -/
abbrev elR (h : Fin 2) (j : Fin 8) : Finset S1024x1024.Idx := (slR h j).view.set
/-- The slabs of the two buffers have the same elements. -/
theorem slR_eq (h : Fin 2) (j : Fin 8) : elR h j = elS h j := by
  ext i
  exact mem_slR.trans mem_slS.symm
/-- The slabs cover the receive buffer, -/
theorem slR_cover : (Finset.univ : Finset (Fin 2 × Fin 8)).biUnion (fun p => elR p.1 p.2) = Finset.univ := by
  rw [show (fun p : Fin 2 × Fin 8 => elR p.1 p.2) = fun p => elS p.1 p.2 from funext fun p => slR_eq p.1 p.2]
  exact slS_cover
/-- and no two of them meet. -/
theorem slR_disj (p : Fin 2 × Fin 8) (hp : p ∈ Finset.univ) (p' : Fin 2 × Fin 8) (hp' : p' ∈ Finset.univ) (h : p ≠ p') :
    Disjoint (elR p.1 p.2) (elR p'.1 p'.2) := by
  rw [slR_eq, slR_eq]; exact slS_disj p hp p' hp' h
/-- The slabs cover the result, -/
theorem slO_cover : (Finset.univ : Finset (Fin 2 × Fin 8)).biUnion (fun p => elO p.1 p.2) = Finset.univ := by
  ext i
  simp only [Finset.mem_biUnion, Finset.mem_univ, true_and, iff_true]
  have hi : (i 1).val < 1024 := (i 1).isLt
  have h1 : (i 1).val / 512 < 2 := by omega
  have h2 : (i 1).val / 64 % 8 < 8 := by omega
  have h3 : i ∈ elO ⟨(i 1).val / 512, h1⟩ ⟨(i 1).val / 64 % 8, h2⟩ := mem_slO.mpr (by dsimp only; omega)
  exact ⟨(⟨_, h1⟩, ⟨_, h2⟩), h3⟩
/-- and no two of them meet. -/
theorem slO_disj (p : Fin 2 × Fin 8) (_ : p ∈ Finset.univ) (p' : Fin 2 × Fin 8) (_ : p' ∈ Finset.univ) (h : p ≠ p') :
    Disjoint (elO p.1 p.2) (elO p'.1 p'.2) := by
  refine Finset.disjoint_left.mpr fun i hi hi' => h ?_
  have h1 := mem_slO.mp hi; have h2 := mem_slO.mp hi'
  have := p.1.isLt; have := p.2.isLt; have := p'.1.isLt; have := p'.2.isLt
  exact Prod.ext (Fin.ext (by omega)) (Fin.ext (by omega))
/-- Every element of the send buffer is in a slab, -/
theorem slS_mem (i : S1024x1024.Idx) : ∃ p : Fin 2 × Fin 8, i ∈ elS p.1 p.2 := by
  obtain ⟨p, -, h⟩ := Finset.mem_biUnion.mp ((Finset.ext_iff.mp slS_cover i).mpr (Finset.mem_univ i))
  exact ⟨p, h⟩
/-- every one of the receive buffer, -/
theorem slR_mem (i : S1024x1024.Idx) : ∃ p : Fin 2 × Fin 8, i ∈ elR p.1 p.2 := by
  obtain ⟨p, -, h⟩ := Finset.mem_biUnion.mp ((Finset.ext_iff.mp slR_cover i).mpr (Finset.mem_univ i))
  exact ⟨p, h⟩
/-- and every one of the result. -/
theorem slO_mem (i : S1x1024x1024.Idx) : ∃ p : Fin 2 × Fin 8, i ∈ elO p.1 p.2 := by
  obtain ⟨p, -, h⟩ := Finset.mem_biUnion.mp ((Finset.ext_iff.mp slO_cover i).mpr (Finset.mem_univ i))
  exact ⟨p, h⟩
/-- The whole result without its unit axis has all the elements of the result. -/
theorem wO_set : (wO).view.set = Finset.univ := by
  refine (View.set_reshape _ squeezes_S1x1024x1024_S1024x1024.numel_eq).trans ((View.set_slice_whole main_v1 _).trans ?_)
  ext i
  simp only [Rect.mem_set_unit, Finset.mem_univ, iff_true]
  intro a
  have h0 : (i 0).val < 1 := (i 0).isLt
  have h1 : (i 1).val < 1024 := (i 1).isLt
  have h2 : (i 2).val < 1024 := (i 2).isLt
  match a with
  | ⟨0, _⟩ => exact ⟨Nat.zero_le _, h0⟩
  | ⟨1, _⟩ => exact ⟨Nat.zero_le _, by show (i 1).val < 0 + 1024; omega⟩
  | ⟨2, _⟩ => exact ⟨Nat.zero_le _, by show (i 2).val < 0 + 1024; omega⟩

/-! ## Contents -/

/-- The multi-index of a 1×1024×1024 array over row and column `i`, and back. -/
abbrev up (i : S1024x1024.Idx) : S1x1024x1024.Idx := ix3 (n0 := 1) (n1 := 1024) (n2 := 1024) 0 (i 0) (i 1)
abbrev dn (i : S1x1024x1024.Idx) : S1024x1024.Idx := ix2 (n0 := 1024) (n1 := 1024) (i 1) (i 2)
/-- Dropping the unit axis of an index and adding it again gives the index back. -/
theorem up_dn (i : S1x1024x1024.Idx) : up (dn i) = i := by
  funext a
  match a with
  | ⟨0, _⟩ => exact Subsingleton.elim (α := Fin 1) _ _
  | ⟨1, _⟩ => rfl
  | ⟨2, _⟩ => rfl

/-- A 1×1024×1024 block read as a 1024×1024 one, and back. -/
def flat {α : Type} (X : S1x1024x1024.Idx → α) : S1024x1024.Idx → α := fun i => X (up i)
def lift {α : Type} (X : S1024x1024.Idx → α) : S1x1024x1024.Idx → α := fun i => X (dn i)

/-- The payload of the `j`-th slab's store is the slab of the block, and of the keep branch's store the block. -/
theorem pay_apply (v : Vec F S1x64x1024 .bf16) (x : S64x1024.Idx) : k0_pay2 v x = v (Fin.cons ⟨0, Nat.one_pos⟩ x) := by
  unfold k0_pay2
  rw [shapeCast_self]
  exact shapeCast_dropUnit_apply ![64, 1024] v _ x
/-- What the store of the whole block writes is the block without its unit axis. -/
theorem pay1_apply (v : Vec F S1x1024x1024 .bf16) : k0_pay1 v = flat v := by
  funext x
  unfold k0_pay1
  rw [shapeCast_self]
  refine (shapeCast_dropUnit_apply ![1024, 1024] v _ x).trans (congrArg v ?_)
  funext a
  match a with
  | ⟨0, _⟩ => rfl
  | ⟨1, _⟩ => rfl
  | ⟨2, _⟩ => rfl

/-- Storing the block's slab `(h, j)` into the send buffer leaves the block there, on that slab. -/
theorem store_slab (h : Fin 2) (j : Fin 8) (X : S1x1024x1024.Idx → Elt F .bf16) (f : (cc0_scratch0 : Ref sig .tc).ty.Contents (Elt F)) :
    ∀ i ∈ (slS h j).view.set,
      (sB.access (rect2 h j) : View sig .tc _ _ _).write (Elt F) f
        (k0_pay2 (F := F) ((xB : Memref sig .tc .vmem S1x1024x1024 .bf16).view.readAt (Elt F) (rect3 h j).toLoadRect X)) Finset.univ i = flat X i := by
  intro i hi
  obtain ⟨x, -, rfl⟩ := Finset.mem_map.mp hi
  refine (View.write_emb_of_mem (v := (sB.access (rect2 h j) : View sig .tc _ _ _)) f _ (Finset.mem_univ x)).trans ?_
  rw [pay_apply]
  show X _ = X _
  refine congrArg X ?_
  funext a
  refine Fin.ext ?_
  match a with
  | ⟨0, _⟩ => rfl
  | ⟨1, _⟩ => rfl
  | ⟨2, _⟩ => rfl

/-- The copy of the send buffer's slab into the receive buffer's leaves the sender's contents there. -/
theorem copy_slab (h : Fin 2) (j : Fin 8) (fs : (cc0_scratch0 : Ref sig .tc).ty.Contents (Elt F)) (fd : (cc0_scratch1 : Ref sig .tc).ty.Contents (Elt F)) :
    ∀ i ∈ (slR h j).view.set, (slR h j).view.write (Elt F) fd ((slS h j).view.read (Elt F) fs) Finset.univ i = fs i := by
  intro i hi
  obtain ⟨x, -, rfl⟩ := Finset.mem_map.mp hi
  exact (View.write_emb_of_mem (v := (slR h j).view) fd _ (Finset.mem_univ x)).trans rfl

/-- Where an index of the result's slab sits. -/
theorem emb_slO (h : Fin 2) (j : Fin 8) (x : S64x1024.Idx) : dn ((slO h j).view.emb x) = (slR h j).view.emb x := by
  have e : Shape.reshapeEquiv (s := S1x64x1024) (s' := S64x1024) squeezes_S1x64x1024_S64x1024.numel_eq x = Fin.cons ⟨0, Nat.one_pos⟩ x :=
    Shape.reshapeEquiv_cons_one (d := ![64, 1024]) _ x
  show dn ((rect3 h j).emb (Shape.reshapeEquiv _ x)) = (rect2 h j).emb x
  rw [e]
  funext a
  refine Fin.ext ?_
  match a with
  | ⟨0, _⟩ => rfl
  | ⟨1, _⟩ => rfl

/-- The copy of the receive buffer's slab into the result's leaves the receive buffer's contents there. -/
theorem copy_slab_out (h : Fin 2) (j : Fin 8) (fs : (cc0_scratch1 : Ref sig .tc).ty.Contents (Elt F)) (fd : (main_v1 : Ref sig .tc).ty.Contents (Elt F)) :
    ∀ i ∈ (slO h j).view.set, (slO h j).view.write (Elt F) fd ((slR h j).view.read (Elt F) fs) Finset.univ i = lift fs i := by
  intro i hi
  obtain ⟨x, -, rfl⟩ := Finset.mem_map.mp hi
  refine (View.write_emb_of_mem (v := (slO h j).view) fd _ (Finset.mem_univ x)).trans ?_
  unfold lift
  exact congrArg fs (emb_slO h j x).symm

/-- The copy of the whole send buffer into the whole result leaves the send buffer's contents there. -/
theorem copy_whole_out (fs : (cc0_scratch0 : Ref sig .tc).ty.Contents (Elt F)) (fd : (main_v1 : Ref sig .tc).ty.Contents (Elt F)) :
    (wO).view.write (Elt F) fd ((sB).view.read (Elt F) fs) Finset.univ = lift fs := by
  funext i
  have hi : i ∈ (wO).view.set := by rw [wO_set]; exact Finset.mem_univ _
  obtain ⟨x, -, rfl⟩ := Finset.mem_map.mp hi
  refine (View.write_emb_of_mem (v := (wO).view) fd _ (Finset.mem_univ x)).trans ?_
  have e : Shape.reshapeEquiv (s := S1x1024x1024) (s' := S1024x1024) squeezes_S1x1024x1024_S1024x1024.numel_eq x = Fin.cons ⟨0, Nat.one_pos⟩ x :=
    Shape.reshapeEquiv_cons_one (d := ![1024, 1024]) _ x
  show fs x = fs (dn ((Rect.unit (s := S1x1024x1024) ![0, 0, 0] S1x1024x1024.size inb_S1x1024x1024_S1x1024x1024_0_0_0).emb (Shape.reshapeEquiv _ x)))
  rw [e]
  refine congrArg fs ?_
  funext a
  refine Fin.ext ?_
  match a with
  | ⟨0, _⟩ => show (x 0).val = 0 + 1 * (x 0).val; omega
  | ⟨1, _⟩ => show (x 1).val = 0 + 1 * (x 1).val; omega

/-- A block without its unit axis, given it back, is the block. -/
theorem lift_flat {α : Type} (X : S1x1024x1024.Idx → α) : lift (flat X) = X := by
  funext i; exact congrArg X (up_dn i)

/-! ## What a slab's transfer credits -/

/-- The credit of a slab, and of a whole buffer. -/
abbrev N : ℕ := (slR 0 0).view.dmaCredit
abbrev NW : ℕ := (wO).view.dmaCredit
/-- A slab's credit is not zero, -/
theorem N_pos : 0 < N := View.dmaCredit_pos _ (by decide)
/-- nor is a whole buffer's. -/
theorem NW_pos : 0 < NW := View.dmaCredit_pos _ (by decide)
/-- The slabs of the send buffer have one credit, -/
theorem amt_slS (h : Fin 2) (j : Fin 8) : (slS h j).view.dmaCredit = N := rfl
/-- those of the receive buffer the same, -/
theorem amt_slR (h : Fin 2) (j : Fin 8) : (slR h j).view.dmaCredit = N := rfl
/-- and those of the result the same. -/
theorem amt_slO (h : Fin 2) (j : Fin 8) : (slO h j).view.dmaCredit = N := rfl

end Cert.KIProof
-- ==== Proof.Cells.lean ====
/-
# The cells, the plan of a run, and what each device holds and owes

The kernel runs on a 2×2 mesh, device `c` at place `(c / 2, c % 2)`. Each device has one barrier cell and forty DMA
cells (five kinds of eight). A PLAN says, for every cell, which of its round-0 duties there are, how many units each
pays, and what each hands over; the launch (Launch.lean) is stated for any plan, the two runs of the kernel (the blocks
change places, or stay) take one each. One round everywhere.
-/
module

public import proofs.«01_k».proof.Proof.Slabs

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the kernel's own cells, and with the pipeline's beside it. -/
abbrev UB : Type := URounds (GSem nD τ sig) Bool
abbrev UU : Type := UR sig nD τ × UB

local notation "𝕄" => MT nD τ sig Unit (Elt F) ℕ UU ℕ

/-- Where the pipeline's ghost state sits in the whole, and where the kernel's does. -/
abbrev EP : Emb (UR sig nD τ) (MT nD τ sig Unit (Elt F) ℕ UU ℕ) := embL
abbrev ER : Emb UB (MT nD τ sig Unit (Elt F) ℕ UU ℕ) := embR

/-! ## The mesh -/

set_option backward.proofsInPublic true in
/-- The device across the first mesh axis, -/
def px (c : Dev nD) : Dev nD := ⟨(c.val + 2) % 4, Nat.mod_lt _ (by decide)⟩
set_option backward.proofsInPublic true in
/-- and the one across the second. -/
def py (c : Dev nD) : Dev nD := ⟨2 * (c.val / 2) + (c.val + 1) % 2, by have := c.isLt; have h : nD = 4 := rfl; omega⟩
/-- The half of the rows that device `c` sends across the first axis: its place on the second. -/
def hf (c : Dev nD) : Fin 2 := ⟨c.val % 2, Nat.mod_lt _ (by decide)⟩

/-- Crossing the first axis twice leads back. -/
theorem px_px (c : Dev nD) : px (px c) = c := by revert c; decide
/-- Crossing the second axis twice leads back. -/
theorem py_py (c : Dev nD) : py (py c) = c := by revert c; decide
/-- Neighbours across the first axis send the same half. -/
theorem hf_px (c : Dev nD) : hf (px c) = hf c := by revert c; decide
/-- Neighbours across the second axis send opposite halves. -/
theorem hf_py (c : Dev nD) : hf (py c) = 1 - hf c := by revert c; decide
/-- So the half that the neighbour across the second axis sends is another one. -/
theorem hf_py_ne (c : Dev nD) : hf (py c) ≠ hf c := by revert c; decide
/-- The exchange across the first axis as a bijection of the devices. -/
def ex : Dev nD ≃ Dev nD := ⟨px, px, px_px, px_px⟩
/-- The exchange across the second axis as a bijection of the devices. -/
def ey : Dev nD ≃ Dev nD := ⟨py, py, py_py, py_py⟩

/-! ## The cells -/

/-- A device's cells: its barrier, and its DMA cells by kind (0 send across the first axis, 1 receive across it, 2 and 3
    the same for the second axis, 4 the local copy) and chunk. -/
abbrev CI : Type := Unit ⊕ (Fin 5 × Fin 8)

/-- The barrier semaphore. -/
abbrev barS : Sem sig := (SemArray.scalar (sig.barrier 0 rfl) : Sems sig S_).sem

set_option backward.proofsInPublic true in
/-- The DMA semaphore of kind `p.1` and chunk `p.2`. -/
def dq (p : Fin 5 × Fin 8) : DmaSem sig :=
  ⟨2 + 8 * p.1.val + p.2.val, by have := p.1.isLt; have := p.2.isLt; have h : sig.nDmaSem = 42 := rfl; omega⟩

/-- The semaphore of a cell. -/
def sm : CI → SemLoc sig
  | .inl _ => .reg barS
  | .inr p => .dma (dq p)

/-- Cell `k` of device `c`. -/
abbrev cell (c : Dev nD) (k : CI) : GSem nD τ sig := ((c : Thread nD τ), sm k)

set_option backward.proofsInPublic true in
/-- Which of the kernel's cells a semaphore is. -/
def dec : SemLoc sig → CI
  | .reg _ => .inl ()
  | .dma q => .inr (⟨(q.val - 2) / 8 % 5, Nat.mod_lt _ (by decide)⟩, ⟨(q.val - 2) % 8, Nat.mod_lt _ (by decide)⟩)

/-- Reading back the semaphore of a cell gives the cell. -/
theorem dec_sm (k : CI) : dec (sm k) = k := by revert k; decide
/-- Different cells of a device have different semaphores. -/
theorem sm_inj : Function.Injective sm := fun a b h => by rw [← dec_sm a, h, dec_sm]

/-- Two cells are the same exactly when the device and the place on it are. -/
theorem cell_iff {c c' : Dev nD} {k k' : CI} : cell c k = cell c' k' ↔ c = c' ∧ k = k' :=
  ⟨fun h => ⟨congrArg (fun g : GSem nD τ sig => g.1.1) h, sm_inj (congrArg Prod.snd h)⟩, fun h => by rw [h.1, h.2]⟩

/-! ## A plan, and its schedule -/

/-- A plan of a run: what is paid to each cell in its one round, how much, and what is handed over with it. -/
structure Plan (F : FTy → Type) where
  /-- the duties of a cell, -/
  D : CI → Finset Bool
  /-- the units each pays, -/
  A : CI → ℕ
  /-- what each device owes each receive cell, -/
  R : ℕ
  /-- what a duty hands over. -/
  P : Dev nD → CI → Bool → sProp (MT nD τ sig Unit (Elt F) ℕ UU ℕ)
  pos : ∀ k, 0 < A k
  st : ∀ c k d, BI.Storable (upEmb : UEmb _ (MT nD τ sig Unit (Elt F) ℕ UU ℕ)) (P c k d)

/-- The schedule of a plan: every duty is in round 0. -/
def Plan.rd (p : Plan F) : Rounds.Schedule (GSem nD τ sig) Bool 𝕄 where
  duties g r := if r = 0 then p.D (dec g.2) else ∅
  unitless _ := False
  amount g _ _ := p.A (dec g.2)
  payload g _ d := p.P g.1.1 (dec g.2) d
  amount_pos g _ _ _ := p.pos _

/-- What a plan's duties hand over may be kept in an invariant. -/
instance Plan.rd_storable (p : Plan F) (g : GSem nD τ sig) (r : ℕ) (d : Bool) :
    BI.Storable (upEmb : UEmb _ 𝕄) (p.rd.payload g r d) := p.st _ _ _

section Sched
variable (p : Plan F) (c : Dev nD) (k : CI)

omit [FloatOps F] in
/-- In round 0 a cell has the plan's duties. -/
theorem duties_at : p.rd.duties (cell c k) 0 = p.D k := by dsimp only [Plan.rd]; rw [if_pos rfl, dec_sm]
omit [FloatOps F] in
/-- In later rounds no cell has a duty. -/
theorem duties_later (g : GSem nD τ sig) : ∀ r, 1 ≤ r → p.rd.duties g r = ∅ :=
  fun r hr => by dsimp only [Plan.rd]; rw [if_neg (by omega)]
omit [FloatOps F] in
/-- In round 0 a duty pays the plan's units. -/
theorem amount_at (d : Bool) : p.rd.amount (cell c k) 0 d = p.A k := by dsimp only [Plan.rd]; rw [dec_sm]
omit [FloatOps F] in
/-- In round 0 a duty hands over what the plan says. -/
theorem payload_at (d : Bool) : p.rd.payload (cell c k) 0 d = p.P c k d := by dsimp only [Plan.rd]; rw [dec_sm]
omit [FloatOps F] in
/-- A cell expects in round 0 its number of duties times the units of each. -/
theorem expect_at : p.rd.expect (cell c k) 0 = (p.D k).card * p.A k := by
  unfold Schedule.expect Schedule.amountOf
  rw [duties_at, Finset.sum_congr rfl fun d _ => amount_at p c k d, Finset.sum_const, smul_eq_mul]
omit [FloatOps F] in
/-- What a wait for the whole of round 0 takes is what all the cell's duties hand over. -/
theorem rest_at : bigSep (p.rd.duties (cell c k) 0 \ ∅) (fun d => p.rd.payload (cell c k) 0 d) = bigSep (p.D k) (fun d => p.P c k d) := by
  rw [Finset.sdiff_empty, duties_at]; exact bigSep_congr fun d _ => payload_at p c k d

end Sched

/-! ## What each device owes at launch; the levels -/

/-- The sum of `f` over the chunks from `n` on. -/
def tail (f : Fin 8 → CellTallies nD τ sig Unit) (n : ℕ) : CellTallies nD τ sig Unit := ∑ i : Fin 8, if n ≤ i.val then f i else 0

/-- What is owed from chunk `j` on is what is owed from the next one on, and chunk `j`'s part. -/
theorem tail_step (f : Fin 8 → CellTallies nD τ sig Unit) (j : Fin 8) : tail f j.val = tail f (j.val + 1) + f j := by
  unfold tail
  rw [← Finset.sum_erase_add _ _ (Finset.mem_univ j), ← Finset.sum_erase_add (f := fun i : Fin 8 => if j.val + 1 ≤ i.val then f i else 0) _ (Finset.mem_univ j),
    if_pos (Nat.le_refl _), if_neg (by omega), add_zero]
  congr 1
  refine Finset.sum_congr rfl fun i hi => ?_
  have hne : i.val ≠ j.val := fun h => (Finset.mem_erase.mp hi).1 (Fin.ext h)
  by_cases h : j.val ≤ i.val
  · rw [if_pos h, if_pos (by omega)]
  · rw [if_neg h, if_neg (by omega)]
/-- Past the last chunk nothing is owed. -/
theorem tail_end (f : Fin 8 → CellTallies nD τ sig Unit) : tail f 8 = 0 :=
  Finset.sum_eq_zero fun i _ => if_neg (by have := i.isLt; omega)

section Owed
variable (p : Plan F)

/-- What device `c` owes the receive cells of chunk `i`, across the first axis and across the second. -/
def fx (c : Dev nD) (i : Fin 8) : CellTallies nD τ sig Unit := tallyAt (cell (px c) (.inr (1, i))) () p.R
def fy (c : Dev nD) (i : Fin 8) : CellTallies nD τ sig Unit := tallyAt (cell (py c) (.inr (3, i))) () p.R
/-- What device `c` owes after the handshake: all the receive cells' credit. -/
def Oxy (c : Dev nD) : CellTallies nD τ sig Unit := tail (fy p c) 0 + tail (fx p c) 0
/-- What it owes after its first signal: that, and one unit to the barrier across the second axis. -/
def O₁ (c : Dev nD) : CellTallies nD τ sig Unit := Oxy p c + tallyAt (cell (py c) (.inl ())) () 1
/-- All a device owes at launch: the receive cells' credit and one unit to each neighbour's barrier. -/
def O₀ (c : Dev nD) : CellTallies nD τ sig Unit := O₁ p c + tallyAt (cell (px c) (.inl ())) () 1

end Owed

/-- The names of the levels: one for each cell of a TensorCore, none elsewhere. -/
def L (g : GSem nD τ sig) : Finset Unit := if g.1.2 = .tc then {()} else ∅
/-- The level of a cell: barrier 1, receive across the first axis 2, across the second 3, all others 0. -/
def lvk : CI → ℕ
  | .inl _ => 1
  | .inr p => if p.1 = 1 then 2 else if p.1 = 3 then 3 else 0
/-- The level of a semaphore: its cell's. -/
def lv (g : GSem nD τ sig) (_ : Unit) : ℕ := lvk (dec g.2)

/-- A semaphore that is not a TensorCore's has no level. -/
theorem L_of_ne (g : GSem nD τ sig) (h : g.1.2 ≠ .tc) : L g = ∅ := if_neg h
/-- A semaphore of a TensorCore has the one level. -/
theorem L_tc (c : Dev nD) (s : SemLoc sig) : L ((c : Thread nD τ), s) = {()} := if_pos rfl
/-- The level of cell `k` on any device is the one that `lvk` gives. -/
theorem lv_cell (c : Dev nD) (k : CI) (u : Unit) : lv (cell c k) u = lvk k := by unfold lv; rw [dec_sm]

/-- Everything owed by `O` is owed to TensorCore cells above level `n`. -/
def Above (n : ℕ) (O : CellTallies nD τ sig Unit) : Prop := ∀ g u, 0 < O g u → g.1.2 = .tc ∧ n < lv g u

/-- Owing nothing is owing above every level. -/
theorem Above.zero (n : ℕ) : Above n 0 := fun g u h => absurd h (Nat.lt_irrefl 0)
/-- If both parts of what is owed are above a level, so is the whole. -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one cell above level `n` is above level `n`. -/
theorem Above.tally {n : ℕ} (c : Dev nD) (k : CI) (a : ℕ) (h : n < lvk k) : Above n (tallyAt (cell c k) () a) := fun g u hg => by
  rw [tallyAt_apply] at hg
  by_cases he : g = cell c k ∧ u = ()
  · rw [he.1]; exact ⟨rfl, by rw [lv_cell]; exact h⟩
  · rw [if_neg he] at hg; exact absurd hg (Nat.lt_irrefl 0)
/-- If every chunk's debt is above a level, so is that of the chunks from `a` on. -/
theorem Above.tail {n : ℕ} {f : Fin 8 → CellTallies nD τ sig Unit} (h : ∀ i, Above n (f i)) (a : ℕ) : Above n (tail f a) := by
  unfold KIProof.tail
  refine Finset.sum_induction _ (Above n) (fun _ _ => Above.add) (Above.zero n) fun i _ => ?_
  split
  · exact h i
  · exact Above.zero n

omit [FloatOps F] in
/-- A cell at level at most `n` may be waited on by a device that owes only above `n`. -/
theorem mayWait {n : ℕ} {O : CellTallies nD τ sig Unit} (hO : Above n O) (c : Dev nD) (s : SemLoc sig) (hs : lvk (dec s) ≤ n) :
    (levAts L lv : sProp 𝕄) ⊢ MayWait (c : Thread nD τ) s () O :=
  MayOwe.of_cut (L := L) (lev := lv) n (fun q hq => by rw [Finset.mem_singleton.mp hq, L_tc]; exact Finset.mem_singleton_self _)
    (fun g u hg => by unfold L; rw [if_pos (hO g u hg).1]; exact Finset.mem_singleton_self _)
    (fun q hq => by rw [Finset.mem_singleton.mp hq]; exact hs)
    (fun g u hg => (hO g u hg).2)

section OwedAbove
variable (p : Plan F) (c : Dev nD)
omit [FloatOps F] in
/-- What is owed across the first axis is above level 1. -/
theorem above_fx (i : Fin 8) : Above 1 (fx p c i) := Above.tally _ _ _ (by revert i; decide)
omit [FloatOps F] in
/-- What is owed across the second axis is above level 2. -/
theorem above_fy (i : Fin 8) : Above 2 (fy p c i) := Above.tally _ _ _ (by revert i; decide)
/-- What is owed above a level is owed above each lower one. -/
theorem Above.mono {n n' : ℕ} (h : n' ≤ n) {O : CellTallies nD τ sig Unit} (hO : Above n O) : Above n' O :=
  fun g u hg => ⟨(hO g u hg).1, lt_of_le_of_lt h (hO g u hg).2⟩
omit [FloatOps F] in
/-- What is owed after the handshake is above level 1, the barrier's. -/
theorem above_Oxy : Above 1 (Oxy p c) :=
  Above.add (Above.mono (by decide) (Above.tail (above_fy p c) 0)) (Above.tail (above_fx p c) 0)
omit [FloatOps F] in
/-- What is owed at launch is above level 0. -/
theorem above_O₀ : Above 0 (O₀ p c) :=
  Above.add (Above.add (Above.mono (by decide) (above_Oxy p c)) (Above.tally _ _ _ (by decide))) (Above.tally _ _ _ (by decide))
end OwedAbove

/-! ## What a device holds -/

/-- Whose cell of each kind device `c` pays: its own send and local cells, its neighbours' receive cells. -/
def peer : Fin 5 → Dev nD ≃ Dev nD
  | ⟨1, _⟩ => ex
  | ⟨3, _⟩ => ey
  | _ => Equiv.refl _

section Held
variable (p : Plan F) (K : Dev nD × CI → ℕ) (c : Dev nD)

/-- The invariants and reached marks of every cell of every device: knowledge, freely copied. -/
def records : sProp 𝕄 :=
  iprop((bigSep Finset.univ fun ck : Dev nD × CI => cellInv ER p.rd (K ck) (cell ck.1 ck.2))
    ∗ bigSep Finset.univ fun ck : Dev nD × CI => reached ER (cell ck.1 ck.2) 0)

/-- The records may be used any number of times. -/
instance records_persistent : BI.Persistent (records p K) := by unfold records; infer_instance

omit [FloatOps F] in
/-- The records have the invariant of each cell. -/
theorem inv_at (c : Dev nD) (k : CI) : records p K ⊢ cellInv ER p.rd (K (c, k)) (cell c k) := by
  unfold records
  exact BI.Entails.trans (BI.Entails.trans BI.sep_and BI.and_elimL) (bigSep_elim (Φ := fun ck : Dev nD × CI => (cellInv ER p.rd (K ck) (cell ck.1 ck.2) : sProp 𝕄)) (Finset.mem_univ (c, k)))
omit [FloatOps F] in
/-- The records say of each cell that round 0 is reached. -/
theorem reached_at (c : Dev nD) (k : CI) : records p K ⊢ reached ER (cell c k) 0 := by
  unfold records
  exact BI.Entails.trans (BI.Entails.trans BI.sep_and BI.and_elimR) (bigSep_elim (Φ := fun ck : Dev nD × CI => (reached ER (cell ck.1 ck.2) 0 : sProp 𝕄)) (Finset.mem_univ (c, k)))

/-- The tokens of the duties device `c` pays. -/
def payToks : sProp 𝕄 :=
  iprop(dutyTok ER (cell (px c) (.inl ())) 0 false ∗ dutyTok ER (cell (py c) (.inl ())) 0 true
    ∗ bigSep Finset.univ fun q : Fin 5 × Fin 8 => dutyTok ER (cell (peer q.1 c) (.inr q)) 0 false)
/-- Its positions, at round 0 of each of its cells. -/
def positions : sProp 𝕄 := bigSep Finset.univ fun k : CI => atPos ER (cell c k) 0 ∅ 0

/-- The ghost state a device starts with: the records, its positions and its tokens. -/
def ghost : sProp 𝕄 := iprop(records p K ∗ positions c ∗ payToks c)

/-- The credit dealt for a cell at launch. -/
def due : CI → ℕ
  | .inl _ => 2
  | .inr q => if q.1 = 1 ∨ q.1 = 3 then p.R else 0
/-- The credit of device `c`'s cells at launch. -/
def creds : sProp 𝕄 := bigSep Finset.univ fun k : CI => cred (tallyAt (cell c k) () (due p k))

/-- Every cell of the device at zero. -/
def zeros : sProp 𝕄 := bigSep Finset.univ fun k : CI => semVal (cell c k) 0

end Held

/-! ## The body's contract -/

section Contract
variable (m : (ℓ : Loc nD τ sig) → Buf (Elt F) ℓ)

/-- The permutation and the block of `x`, as staged. -/
def tstg (c : Dev nD) : (cc0_stg0_0 : Ref sig .tc).ty.Contents (Elt F) := (win0_0.blk (0 : Fin 1)).view.read (Elt F) (m ((c : Thread nD τ).loc main_arg1))
/-- The staged block of `x` on device `c`. -/
def xstg (c : Dev nD) : (cc0_stg1_0 : Ref sig .tc).ty.Contents (Elt F) := (win0_1.blk (0 : Fin 1)).view.read (Elt F) (m ((c : Thread nD τ).loc main_arg0))

/-- No loop of the body needs a variant. -/
abbrev 𝒱₀ : Variants := Variants.none

/-- Device `c`'s send and receive buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- Device `c`'s staged permutation and block. -/
def staged (c : Dev nD) : sProp 𝕄 :=
  iprop((((c : Thread nD τ).loc cc0_stg0_0) ↦{fullShare} tstg m c) ∗ (((c : Thread nD τ).loc cc0_stg1_0) ↦{fullShare} xstg m c))

/-- What device `c`'s body starts from, -/
def bodyPre (p : Plan F) (K : Dev nD × CI → ℕ) (c : Dev nD) : sProp 𝕄 :=
  iprop(ghost p K c ∗ creds p c ∗ levAts L lv ∗ (((c : Thread nD τ).loc main_v1) ↦{fullShare} m ((c : Thread nD τ).loc main_v1))
    ∗ scratch c ∗ (∃ W, owes (c : Thread nD τ) (O₀ p c) W) ∗ staged m c)
/-- and what it ends with. -/
def bodyPost (OUT : (c : Dev nD) → Buf (Elt F) ((c : Thread nD τ).loc main_v1)) (c : Dev nD) : sProp 𝕄 :=
  iprop(((((c : Thread nD τ).loc main_v1) ↦{fullShare} OUT c) ∗ zeros c ∗ scratch c) ∗ (∃ W, owes (c : Thread nD τ) 0 W) ∗ staged m c)

/-- The kernel's body on its buffers. -/
abbrev bodyAt : Prog (TpuEff nD τ sig (Elt F) Λ₀ .tc) PUnit :=
  cc0_body (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5 cc0_scratch6

/-- The body, run from `bodyPre` under plan `p`, ends in `bodyPost`, the result holding `OUT`. -/
def BodyRuns (p : Plan F) (OUT : (c : Dev nD) → Buf (Elt F) ((c : Thread nD τ).loc main_v1)) : Prop :=
  ∀ (c : Dev nD) (K : Dev nD × CI → ℕ) (Kt : PUnit → sProp 𝕄),
    iprop(bodyPre m p K c ∗ (bodyPost m OUT c -∗ Kt ⟨⟩)) ⊢ wp frame (wpE (defs₀ (F := F)) 𝒱₀ c none) Set.univ bodyAt Kt

end Contract

end Cert.KIProof

end
-- ==== Proof.Steps.lean ====
/-
# Steps of the body common to both runs
-/
module

public import proofs.«01_k».proof.Proof.Cells

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slab points-tos -/

/-- Slab `(h, j)` of device `c`'s send buffer, receive buffer and result, at share `q`, holding `f`. -/
abbrev ptS (c : Dev nD) (h : Fin 2) (j : Fin 8) (q : PosShare TreeShare) (f : Buf (Elt F) ((c : Thread nD τ).loc cc0_scratch0)) : sProp 𝕄 :=
  ((c : Thread nD τ).loc cc0_scratch0) ↦[(slS h j).view.set]{q} f
abbrev ptR (c : Dev nD) (h : Fin 2) (j : Fin 8) (q : PosShare TreeShare) (f : Buf (Elt F) ((c : Thread nD τ).loc cc0_scratch1)) : sProp 𝕄 :=
  ((c : Thread nD τ).loc cc0_scratch1) ↦[(slR h j).view.set]{q} f
abbrev ptO (c : Dev nD) (h : Fin 2) (j : Fin 8) (q : PosShare TreeShare) (f : Buf (Elt F) ((c : Thread nD τ).loc main_v1)) : sProp 𝕄 :=
  ((c : Thread nD τ).loc main_v1) ↦[(slO h j).view.set]{q} f

/-! ## A family over the eight chunks, the first `n` of them done -/

/-- Chunk `i`'s `B` for the first `n` chunks, `A` for the others. -/
def mix (A B : Fin 8 → sProp 𝕄) (n : ℕ) : sProp 𝕄 := bigSep Finset.univ fun i : Fin 8 => if i.val < n then B i else A i

omit [FloatOps F] in
/-- With no chunk done the family is all of the first kind, -/
theorem mix_zero (A B : Fin 8 → sProp 𝕄) : mix A B 0 = bigSep Finset.univ A :=
  bigSep_congr fun i _ => if_neg (Nat.not_lt_zero _)
omit [FloatOps F] in
/-- and with all eight done all of the second. -/
theorem mix_end (A B : Fin 8 → sProp 𝕄) : mix A B 8 = bigSep Finset.univ B :=
  bigSep_congr fun i _ => if_pos i.isLt
omit [FloatOps F] in
/-- Taking chunk `j` of the first kind and returning it of the second moves the mark by one. -/
theorem mix_step (A B : Fin 8 → sProp 𝕄) (j : Fin 8) : mix A B j.val ⊢ iprop(A j ∗ (B j -∗ mix A B (j.val + 1))) := by
  unfold mix
  rw [bigSep_univ_at _ j, bigSep_univ_at (fun i : Fin 8 => if i.val < j.val + 1 then B i else A i) j, if_neg (Nat.lt_irrefl _), if_pos (Nat.lt_succ_self _)]
  have e : bigSep (Finset.univ.erase j) (fun i : Fin 8 => if i.val < j.val then B i else A i)
      = bigSep (Finset.univ.erase j) (fun i : Fin 8 => if i.val < j.val + 1 then B i else A i) :=
    bigSep_congr fun i hi => by
      have hne : i.val ≠ j.val := fun h => (Finset.mem_erase.mp hi).1 (Fin.ext h)
      by_cases h : i.val < j.val
      · rw [if_pos h, if_pos (by omega)]
      · rw [if_neg h, if_neg (by omega)]
  rw [e]
  iintro ⟨HA, HE⟩
  isplitl [HA]; · iexact HA
  iintro HB
  isplitl [HB]; · iexact HB
  iexact HE

/-- The weakest precondition the body is run under. -/
abbrev WP (c : Dev nD) (t : Prog (TpuEff nD τ sig (Elt F) Λ₀ .tc) PUnit) (Q : PUnit → sProp 𝕄) : sProp 𝕄 :=
  wp frame (wpE (defs₀ (F := F)) 𝒱₀ (c : Thread nD τ) none) Set.univ t Q

/-! ## A wait on a DMA cell -/

/-- Waiting on one of its DMA cells a device gets what the cell's one duty hands over. -/
theorem wait_dma (p : Plan F) (K : Dev nD × CI → ℕ) (c : Dev nD) (q : Fin 5 × Fin 8) (hD : p.D (.inr q) = {false})
    {sp sp' : Space} {s s' : Shape} {e e' : EltTy} {qq : DmaSem sig} (hq : qq = dq q)
    {src : Memref sig .tc sp' s' e'} {dst : Memref sig .tc sp s e} {hsrc : src.view.WordExact} {hdst : dst.view.WordExact}
    (hN : dst.view.dmaCredit = p.A (.inr q)) {O : CellTallies nD τ sig Unit} {n : ℕ} (hO : Above n O) (hl : lvk (.inr q) ≤ n)
    {k : PUnit → Prog (TpuEff nD τ sig (Elt F) Λ₀ .tc) PUnit} {Q : PUnit → sProp 𝕄} :
    iprop(records p K ∗ levAts L lv ∗ cred (tallyAt (cell c (.inr q)) () (p.A (.inr q))) ∗ (∃ W, owes (c : Thread nD τ) O W) ∗ atPos ER (cell c (.inr q)) 0 ∅ 0)
      ⊢ iprop((((∃ W, owes (c : Thread nD τ) O W) ∗ atPos ER (cell c (.inr q)) (0 + 1) ∅ 0 ∗ p.P c (.inr q) false) -∗ WP c (k ⟨⟩) Q)
          -∗ WP c (.op (.waitDma2 qq src dst hsrc hdst) k) Q) := by
  subst hq
  have e : bigSep (p.rd.duties ((c : Thread nD τ), SemLoc.dma (dq q)) 0 \ ∅) (fun d => p.rd.payload ((c : Thread nD τ), SemLoc.dma (dq q)) 0 d) = p.P c (.inr q) false :=
    (rest_at p c (.inr q)).trans (by rw [hD, bigSep_singleton])
  iintro ⟨#Hr, #Hlev, Hc, ⟨%W, HO⟩, Hat⟩ Hk
  iapply (Rounds.wp_wait_rest_token 𝒱₀ ER p.rd (c : Thread nD τ) none (κ := K (c, .inr q))
      (wpE_waitDma2_eq 𝒱₀ (c : Thread nD τ) none Set.univ) (Set.mem_univ _) () (O := O) (W := W) (R := 0) (m := 0) (T := ∅)
      (by rw [Nat.zero_add, show Schedule.expect p.rd ((c : Thread nD τ), SemLoc.dma (dq q)) 0 = _ from expect_at p c (.inr q), hD, hN]; simp)) $$ [Hc HO Hat]
  · isplitr; · iapply (inv_at p K c (.inr q)); iexact Hr
    isplitl [Hc]; · rw [hN]; iexact Hc
    isplitl [HO]; · iexact HO
    isplitr; · iapply (mayWait hO c (sm (.inr q)) (by rw [dec_sm]; exact hl)); iexact Hlev
    iexact Hat
  iintro ⟨HO, Hat, -, Hpay⟩
  iapply Hk
  isplitl [HO]; · iexists _; iexact HO
  isplitl [Hat]; · iexact Hat
  ihave Hp := (Entails.of_eq e) $$ Hpay
  iexact Hp

/-! ## The handshake on the barrier -/

/-- Both neighbours are signalled, and both neighbours' signals are awaited: what each duty hands over changes hands. -/
theorem handshake (p : Plan F) (K : Dev nD × CI → ℕ) (c : Dev nD) (hD : p.D (.inl ()) = Finset.univ) (hA : p.A (.inl ()) = 1)
    {n1 n2 : Dev nD} (h1 : n1 = px c) (h2 : n2 = py c) {k : PUnit → Prog (TpuEff nD τ sig (Elt F) Λ₀ .tc) PUnit} {Q : PUnit → sProp 𝕄} :
    iprop(records p K ∗ levAts L lv ∗ (∃ W, owes (c : Thread nD τ) (O₀ p c) W)
        ∗ (dutyTok ER (cell (px c) (.inl ())) 0 false ∗ dutyTok ER (cell (py c) (.inl ())) 0 true)
        ∗ (p.P (px c) (.inl ()) false ∗ p.P (py c) (.inl ()) true)
        ∗ cred (tallyAt (cell c (.inl ())) () 2) ∗ atPos ER (cell c (.inl ())) 0 ∅ 0)
      ⊢ iprop((((∃ W, owes (c : Thread nD τ) (Oxy p c) W) ∗ atPos ER (cell c (.inl ())) (0 + 1) ∅ 0 ∗ p.P c (.inl ()) false ∗ p.P c (.inl ()) true)
            -∗ WP c (k ⟨⟩) Q)
          -∗ WP c (.op (.semSignal (n1, .tc) barS (1#32 : BitVec 32).toInt) fun _ => .op (.semSignal (n2, .tc) barS (1#32 : BitVec 32).toInt) fun _ =>
            .op (.semWait barS (2#32 : BitVec 32).toInt) k) Q) := by
  subst h1 h2
  have mem : ∀ (c' : Dev nD) (d : Bool), d ∈ p.rd.duties ((c' : Thread nD τ), SemLoc.reg barS) 0 := fun c' d => by
    rw [show p.rd.duties ((c' : Thread nD τ), SemLoc.reg barS) 0 = Finset.univ from (duties_at p c' (.inl ())).trans hD]; exact Finset.mem_univ _
  have amt : ∀ (c' : Dev nD) (d : Bool), p.rd.amount ((c' : Thread nD τ), SemLoc.reg barS) 0 d = 1 := fun c' d => (amount_at p c' (.inl ()) d).trans hA
  have pay : ∀ (c' : Dev nD) (d : Bool), p.rd.payload ((c' : Thread nD τ), SemLoc.reg barS) 0 d = p.P c' (.inl ()) d := fun c' d => payload_at p c' (.inl ()) d
  have ex2 : p.rd.expect ((c : Thread nD τ), SemLoc.reg barS) 0 = 2 := (expect_at p c (.inl ())).trans (by rw [hD, hA]; rfl)
  have rest : bigSep (p.rd.duties ((c : Thread nD τ), SemLoc.reg barS) 0 \ ∅) (fun d => p.rd.payload ((c : Thread nD τ), SemLoc.reg barS) 0 d)
      = iprop(p.P c (.inl ()) false ∗ p.P c (.inl ()) true) :=
    (rest_at p c (.inl ())).trans (by
      rw [hD, show (Finset.univ : Finset Bool) = insert false {true} from by decide, bigSep_insert (by decide), bigSep_singleton]; rfl)
  iintro ⟨#Hr, #Hlev, ⟨%W, HO⟩, ⟨Ht1, Ht2⟩, ⟨Hp1, Hp2⟩, Hc, Hat⟩ HK
  unfold O₀
  iapply (Rounds.wp_signal 𝒱₀ ER p.rd (c : Thread nD τ) none (dst := (px c : Thread nD τ)) (κ := K (px c, .inl ()))
      (d := false) (mem (px c) false) ((amt (px c) false).trans (by decide)) () (O₁ p c) rfl) $$ [HO Ht1 Hp1]
  · isplitr; · iapply (inv_at p K (px c) (.inl ())); iexact Hr
    isplitl [HO]; · iexact HO
    isplitl [Ht1]; · iexact Ht1
    isplitl [Hp1]; · rw [pay]; iexact Hp1
    iapply (reached_at p K (px c) (.inl ())); iexact Hr
  iintro HO
  unfold O₁
  iapply (Rounds.wp_signal 𝒱₀ ER p.rd (c : Thread nD τ) none (dst := (py c : Thread nD τ)) (κ := K (py c, .inl ()))
      (d := true) (mem (py c) true) ((amt (py c) true).trans (by decide)) () (Oxy p c) rfl) $$ [HO Ht2 Hp2]
  · isplitr; · iapply (inv_at p K (py c) (.inl ())); iexact Hr
    isplitl [HO]; · iexact HO
    isplitl [Ht2]; · iexact Ht2
    isplitl [Hp2]; · rw [pay]; iexact Hp2
    iapply (reached_at p K (py c) (.inl ())); iexact Hr
  iintro HO
  iapply (Rounds.wp_wait_rest_token 𝒱₀ ER p.rd (c : Thread nD τ) none (κ := K (c, .inl ()))
      (wpE_semWait_eq 𝒱₀ (c : Thread nD τ) none Set.univ) (Set.mem_univ _) () (O := Oxy p c) (W := W) (R := 0) (m := 0) (T := ∅)
      (by rw [ex2]; decide)) $$ [Hc HO Hat]
  · isplitr; · iapply (inv_at p K c (.inl ())); iexact Hr
    isplitl [Hc]; · iexact Hc
    isplitl [HO]; · iexact HO
    isplitr; · iapply (mayWait (above_Oxy p c) c (sm (.inl ())) (by decide)); iexact Hlev
    iexact Hat
  iintro ⟨HO, Hat, -, Hpay⟩
  iapply HK
  isplitl [HO]; · iexists _; iexact HO
  isplitl [Hat]; · iexact Hat
  ihave Hp := (Entails.of_eq rest) $$ Hpay
  iexact Hp

end Cert.KIProof

end
-- ==== Proof.Swap.lean ====
/-
# The run in which the blocks change places

Each device sends the eight chunks of its own half of the rows to its neighbour across the first mesh axis. As they
arrive it forwards each across the second axis and copies it into its own result. Then it waits for all of it.
-/
module

public import proofs.«01_k».proof.Proof.Steps

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Swap
variable (m : (ℓ : Loc nD τ sig) → Buf (Elt F) ℓ)

/-! ## The plan -/

/-- What the kernel leaves in device `c`'s result: on the rows of its own half the block of its neighbour across the first
    axis, on the other rows the block of the device diagonally across. -/
def swapOut (c : Dev nD) : Buf (Elt F) ((c : Thread nD τ).loc main_v1) :=
  fun (i : S1x1024x1024.Idx) => if (i 1).val / 512 = (hf c).val then (xstg m (px c) : S1x1024x1024.Idx → Elt F .bf16) i else (xstg m (px (py c)) : S1x1024x1024.Idx → Elt F .bf16) i

/-- The block of `x` that device `c` has received, as the receive buffer holds it. -/
def got (c : Dev nD) : Buf (Elt F) ((c : Thread nD τ).loc cc0_scratch1) := flat (xstg m (px c))
/-- Its own block, as the send buffer holds it. -/
def own (c : Dev nD) : Buf (Elt F) ((c : Thread nD τ).loc cc0_scratch0) := flat (xstg m c)

/-- What arrives with the credit of device `c`'s DMA cell of each kind and chunk. -/
def swPay (c : Dev nD) (q : Fin 5 × Fin 8) : sProp 𝕄 :=
  match q.1.val with
  | 0 => ptS c (hf c) q.2 fullShare (own m c)
  | 1 => ptR c (hf c) q.2 fullShare (got m c)
  | 2 => ptR c (hf c) q.2 fullShare.left (got m c)
  | 3 => ptO c (hf (py c)) q.2 fullShare (swapOut m c)
  | _ => iprop(ptO c (hf c) q.2 fullShare (swapOut m c) ∗ ptR c (hf c) q.2 fullShare.right (got m c))

/-- What arrives with device `c`'s barrier: the neighbours' slabs that `c` writes. -/
def swBar (c : Dev nD) (d : Bool) : sProp 𝕄 :=
  if d then bigSep Finset.univ fun j : Fin 8 => iprop(∃ f, ptO (py c) (hf c) j fullShare f)
  else bigSep Finset.univ fun j : Fin 8 => iprop(∃ f, ptR (px c) (hf c) j fullShare f)

/-- The plan of a run in which the blocks change places. -/
def sw : Plan F where
  D k := match k with | .inl _ => Finset.univ | .inr _ => {false}
  A k := match k with | .inl _ => 1 | .inr _ => N
  R := N
  P c k d := match k with | .inl _ => swBar c d | .inr q => swPay m c q
  pos k := match k with | .inl _ => Nat.one_pos | .inr _ => N_pos
  st c k d := by
    match k with
    | .inl _ =>
      show BI.Storable _ (swBar c d)
      unfold swBar; split <;> infer_instance
    | .inr q =>
      show BI.Storable _ (swPay m c q)
      unfold swPay; split <;> infer_instance

/-- On the rows of its own half a device's result is to hold what it received. -/
theorem lift_own (c : Dev nD) (j : Fin 8) : ∀ i ∈ (slO (hf c) j).view.set, lift (got m c) i = swapOut m c i := by
  intro i hi
  have h := mem_slO.mp hi
  unfold swapOut got
  rw [lift_flat, if_pos (by have := j.isLt; omega)]

/-- On those rows the result of the neighbour across the second axis is to hold the same. -/
theorem lift_far (c : Dev nD) (j : Fin 8) : ∀ i ∈ (slO (hf c) j).view.set, lift (got m c) i = swapOut m (py c) i := by
  intro i hi
  have h := mem_slO.mp hi
  have hne : (hf (py c)).val ≠ (hf c).val := fun e => hf_py_ne c (Fin.ext e)
  unfold swapOut got
  rw [lift_flat, if_neg (by have := j.isLt; omega), py_py]

/-! ## One chunk of each phase -/

variable (K : Dev nD × CI → ℕ) (c : Dev nD)

/-- Each DMA cell has the one duty. -/
theorem mem_sw (q : Fin 5 × Fin 8) : false ∈ (sw m).rd.duties ((c : Thread nD τ), SemLoc.dma (dq q)) 0 := by
  rw [show (sw m).rd.duties ((c : Thread nD τ), SemLoc.dma (dq q)) 0 = {false} from duties_at (sw m) c (.inr q)]
  exact Finset.mem_singleton_self _

/-- What a send across the first axis gives back, and what it delivers. -/
theorem pay_sendx (j : Fin 8) :
    (((slS (hf c) j).view.loc (c : Thread nD τ)) ↦[(slS (hf c) j).view.set]{fullShare} own m c)
      ⊢ (sw m).rd.payload ((c : Thread nD τ), SemLoc.dma (dq (0, j))) 0 false :=
  Entails.of_eq (payload_at (sw m) c (.inr (0, j)) false).symm
/-- What lands in the neighbour's receive buffer is what its receive cell hands over. -/
theorem pay_recvx (j : Fin 8) (fd : Buf (Elt F) ((px c : Thread nD τ).loc cc0_scratch1)) :
    (((slR (hf c) j).view.loc (px c : Thread nD τ)) ↦[(slR (hf c) j).view.set]{fullShare}
        ((slR (hf c) j).view.write (Elt F) fd ((slS (hf c) j).view.read (Elt F) (own m c)) Finset.univ))
      ⊢ (sw m).rd.payload ((px c : Thread nD τ), SemLoc.dma (dq (1, j))) 0 false := by
  have e : (sw m).rd.payload ((px c : Thread nD τ), SemLoc.dma (dq (1, j))) 0 false = ptR (px c) (hf (px c)) j fullShare (got m (px c)) :=
    payload_at (sw m) (px c) (.inr (1, j)) false
  rw [e, hf_px]
  exact Entails.of_eq (pointsTo_congr (fun i hi => (copy_slab (hf c) j (own m c) fd i hi).trans (by unfold got own; rw [px_px])))

/-- The send of chunk `j` across the first axis: the slabs go, the credit of the device's own send cell comes. -/
theorem send_x {k : PUnit → Prog (TpuEff nD τ sig (Elt F) Λ₀ .tc) PUnit} {Q : PUnit → sProp 𝕄}
    (j : Fin 8) (fd : Buf (Elt F) ((px c : Thread nD τ).loc cc0_scratch1)) {O : CellTallies nD τ sig Unit} {W : Waits sig Unit} {hsc hsrc hdst hsem} :
    iprop(records (sw m) K ∗ ptS c (hf c) j fullShare (own m c) ∗ ptR (px c) (hf c) j fullShare fd ∗ owes (c : Thread nD τ) (O + fx (sw m) c j) W
        ∗ dutyTok ER (cell c (.inr (0, j))) 0 false ∗ dutyTok ER (cell (px c) (.inr (1, j))) 0 false)
      ⊢ iprop(((cred (tallyAt (cell c (.inr (0, j))) () N) ∗ owes (c : Thread nD τ) O W) -∗ WP c (k ⟨⟩) Q)
        -∗ WP c (.op (.enqueueDma (slS (hf c) j) (.remote (Dev.tc (px c)) (slR (hf c) j) (.dma (dq (0, j))) hsc) (.dma (dq (1, j))) hsrc hdst hsem) k) Q) := by
  iintro ⟨#Hr, Hs, Hd, HO, Ht, Ht'⟩ HK
  iapply (Rounds.wp_send_pointsTo 𝒱₀ ER (sw m).rd (c : Thread nD τ) none (c' := (px c : Thread nD τ)) (src := slS (hf c) j) (dst := slR (hf c) j)
      (κ₁ := K (c, .inr (0, j))) (κ₂ := K (px c, .inr (1, j)))
      (r₁ := 0) (r₂ := 0) (d₁ := false) (d₂ := false) (fs := own m c) (fd := fd)
      (mem_sw m c (0, j))
      (mem_sw m (px c) (1, j)) () () N rfl
      (amount_at (sw m) c (.inr (0, j)) false) (amount_at (sw m) (px c) (.inr (1, j)) false)
      O rfl (W := W) (pay_sendx m c j) (pay_recvx m c j fd)) $$ [Hs Hd HO Ht Ht']
  · isplitr; · iapply (inv_at (sw m) K c (.inr (0, j))); iexact Hr
    isplitr; · iapply (inv_at (sw m) K (px c) (.inr (1, j))); iexact Hr
    isplitl [Hs]; · iexact Hs
    isplitl [Hd]; · iexact Hd
    isplitl [HO]; · iexact HO
    isplitl [Ht]; · iexact Ht
    isplitr; · iapply (reached_at (sw m) K c (.inr (0, j))); iexact Hr
    isplitl [Ht']; · iexact Ht'
    iapply (reached_at (sw m) K (px c) (.inr (1, j))); iexact Hr
  iintro ⟨Hc, HO⟩
  iapply HK
  isplitl [Hc]; · iexact Hc
  iexact HO

/-- A chunk before it is sent across the first axis, and after. -/
def A1 (i : Fin 8) : sProp 𝕄 :=
  iprop((∃ f, ptS c (hf c) i fullShare f) ∗ (∃ f, ptR (px c) (hf c) i fullShare f) ∗ dutyTok ER (cell c (.inr (0, i))) 0 false
    ∗ dutyTok ER (cell (px c) (.inr (1, i))) 0 false)
def B1 (i : Fin 8) : sProp 𝕄 := cred (tallyAt (cell c (.inr (0, i))) () N)
/-- What device `c` holds while it sends across the first axis, `n` chunks sent. -/
def H1 (n : ℕ) : sProp 𝕄 :=
  iprop(records (sw m) K ∗ (((c : Thread nD τ).loc cc0_stg1_0) ↦{fullShare} xstg m c)
    ∗ (∃ W, owes (c : Thread nD τ) (tail (fy (sw m) c) 0 + tail (fx (sw m) c) n) W) ∗ mix (A1 c) (B1 c) n)

/-- Chunk `j`: its rows are copied to the send buffer and sent to the neighbour across the first axis. -/
theorem iter1 {R : sProp 𝕄} {k : PUnit → Prog (TpuEff nD τ sig (Elt F) Λ₀ .tc) PUnit} {Q : PUnit → sProp 𝕄}
    (j : Fin 8) {o2 : Fin 3 → ℕ} {o3 o4 : Fin 2 → ℕ}
    (e2 : o2 = ![0, 512 * (hf c).val + 64 * j.val, 0]) (e3 : o3 = ![512 * (hf c).val + 64 * j.val, 0]) (e4 : o4 = ![512 * (hf c).val + 64 * j.val, 0])
    {i2 : ∀ a, o2 a + S1x64x1024.size a ≤ S1x1024x1024.size a} {i3 : ∀ a, o3 a + S64x1024.size a ≤ S1024x1024.size a} {i4 : ∀ a, o4 a + S64x1024.size a ≤ S1024x1024.size a}
    {hl : (xB : Memref sig .tc .vmem S1x1024x1024 .bf16).view.LoadsAt (Rect.unit (s := S1x1024x1024) o2 S1x64x1024.size i2).toLoadRect}
    {hl3 : (sB : Memref sig .tc .vmem S1024x1024 .bf16).view.LoadsAt (Rect.unit (s := S1024x1024) o3 S64x1024.size i3).toLoadRect}
    {pay : Vec F S1x64x1024 .bf16 → FVec F S64x1024 .bf16} (hpay : pay = k0_pay2) {hst hm}
    {n : Dev nD} (hn : n = px c) {qs qr : DmaSem sig} (hqs : qs = dq (0, j)) (hqr : qr = dq (1, j)) {hsc hsrc hdst hsem}
    (h : iprop(H1 m K c (j.val + 1) ∗ R) ⊢ WP c (k ⟨⟩) Q) :
    iprop(H1 m K c j.val ∗ R) ⊢ WP c (.op (.load xB (Rect.unit (s := S1x1024x1024) o2 S1x64x1024.size i2).toLoadRect hl) fun v =>
      .op (.load sB (Rect.unit (s := S1024x1024) o3 S64x1024.size i3).toLoadRect hl3) fun _ =>
      .op (.store sB (Rect.unit (s := S1024x1024) o3 S64x1024.size i3) (pay v) Finset.univ hst hm) fun _ =>
      .op (.enqueueDma (sB.slice (Rect.unit (s := S1024x1024) o4 S64x1024.size i4) (fun _ => rfl))
        (.remote (Dev.tc n) (rB.slice (Rect.unit (s := S1024x1024) o4 S64x1024.size i4) (fun _ => rfl)) (.dma qs) hsc) (.dma qr) hsrc hdst hsem) k) Q := by
  subst e2 e3 e4 hpay hn hqs hqr
  unfold H1 at h ⊢
  rw [tail_step (fx (sw m) c) j, ← add_assoc]
  iintro ⟨⟨#Hr, Hx, ⟨%W, HO⟩, HM⟩, HR⟩
  ihave HM := (mix_step (A1 c) (B1 c) j) $$ HM
  icases HM with ⟨HA, HM⟩
  unfold A1
  icases HA with ⟨⟨%f, Hs⟩, ⟨%fd, Hd⟩, Ht, Ht'⟩
  iapply (wp_load 𝒱₀ (c : Thread nD τ) none Set.univ (m := xB) (Finset.subset_univ _)) $$ Hx; iintro Hx
  iapply (wp_load 𝒱₀ (c : Thread nD τ) none Set.univ (m := sB) (S := (slS (hf c) j).view.set) (by rw [View.set_slice]; exact Finset.Subset.refl _)) $$ Hs; iintro Hs
  iapply (wp_store 𝒱₀ (c : Thread nD τ) none Set.univ (m := sB) (r := rect2 (hf c) j) (Mk := Finset.univ) (S := (slS (hf c) j).view.set) (Finset.Subset.refl _)) $$ Hs; iintro Hs
  ihave Hs := (Entails.of_eq (pointsTo_congr (store_slab (hf c) j (xstg m c) f))) $$ Hs
  iapply (send_x m K c j fd (O := tail (fy (sw m) c) 0 + tail (fx (sw m) c) (j.val + 1)) (W := W)) $$ [Hs Hd HO Ht Ht']
  · isplitr; · iexact Hr
    isplitl [Hs]; · iexact Hs
    isplitl [Hd]; · iexact Hd
    isplitl [HO]; · iexact HO
    isplitl [Ht]; · iexact Ht
    iexact Ht'
  iintro ⟨Hc, HO⟩
  iapply h
  isplitr [HR]
  · isplitr; · iexact Hr
    isplitl [Hx]; · iexact Hx
    isplitl [HO]; · iexists _; iexact HO
    iapply HM
    unfold B1
    iexact Hc
  iexact HR

/-! ### Across the second axis -/

/-- What a send across the second axis gives back, and what it delivers; and what the local copy hands back. -/
theorem pay_sendy (j : Fin 8) :
    (((slR (hf c) j).view.loc (c : Thread nD τ)) ↦[(slR (hf c) j).view.set]{fullShare.left} got m c)
      ⊢ (sw m).rd.payload ((c : Thread nD τ), SemLoc.dma (dq (2, j))) 0 false :=
  Entails.of_eq (payload_at (sw m) c (.inr (2, j)) false).symm
/-- What lands in the result across the second axis is what the receive cell there hands over. -/
theorem pay_recvy (j : Fin 8) (fd : Buf (Elt F) ((py c : Thread nD τ).loc main_v1)) :
    (((slO (hf c) j).view.loc (py c : Thread nD τ)) ↦[(slO (hf c) j).view.set]{fullShare}
        ((slO (hf c) j).view.write (Elt F) fd ((slR (hf c) j).view.read (Elt F) (got m c)) Finset.univ))
      ⊢ (sw m).rd.payload ((py c : Thread nD τ), SemLoc.dma (dq (3, j))) 0 false := by
  have e : (sw m).rd.payload ((py c : Thread nD τ), SemLoc.dma (dq (3, j))) 0 false = ptO (py c) (hf (py (py c))) j fullShare (swapOut m (py c)) :=
    payload_at (sw m) (py c) (.inr (3, j)) false
  rw [e, py_py]
  exact Entails.of_eq (pointsTo_congr (fun i hi => (copy_slab_out (hf c) j (got m c) fd i hi).trans (lift_far m c j i hi)))
/-- What the local copy leaves, with the share of the source that it read, is what its cell hands over. -/
theorem pay_loc (j : Fin 8) (fd : Buf (Elt F) ((c : Thread nD τ).loc main_v1)) :
    iprop((((slO (hf c) j).view.loc (c : Thread nD τ)) ↦[(slO (hf c) j).view.set]{fullShare}
        ((slO (hf c) j).view.write (Elt F) fd ((slR (hf c) j).view.read (Elt F) (got m c)) Finset.univ))
        ∗ (((slR (hf c) j).view.loc (c : Thread nD τ)) ↦[(slR (hf c) j).view.set]{fullShare.right} got m c))
      ⊢ (sw m).rd.payload ((c : Thread nD τ), SemLoc.dma (dq (4, j))) 0 false := by
  have e : (sw m).rd.payload ((c : Thread nD τ), SemLoc.dma (dq (4, j))) 0 false
      = iprop(ptO c (hf c) j fullShare (swapOut m c) ∗ ptR c (hf c) j fullShare.right (got m c)) :=
    payload_at (sw m) c (.inr (4, j)) false
  rw [e]
  exact sep_mono_left (Entails.of_eq (pointsTo_congr (fun i hi => (copy_slab_out (hf c) j (got m c) fd i hi).trans (lift_own m c j i hi))))

/-- The send of chunk `j` across the second axis. -/
theorem send_y {k : PUnit → Prog (TpuEff nD τ sig (Elt F) Λ₀ .tc) PUnit} {Q : PUnit → sProp 𝕄}
    (j : Fin 8) (fd : Buf (Elt F) ((py c : Thread nD τ).loc main_v1)) {O : CellTallies nD τ sig Unit} {W : Waits sig Unit} {hsc hsrc hdst hsem} :
    iprop(records (sw m) K ∗ ptR c (hf c) j fullShare.left (got m c) ∗ ptO (py c) (hf c) j fullShare fd ∗ owes (c : Thread nD τ) (O + fy (sw m) c j) W
        ∗ dutyTok ER (cell c (.inr (2, j))) 0 false ∗ dutyTok ER (cell (py c) (.inr (3, j))) 0 false)
      ⊢ iprop(((cred (tallyAt (cell c (.inr (2, j))) () N) ∗ owes (c : Thread nD τ) O W) -∗ WP c (k ⟨⟩) Q)
        -∗ WP c (.op (.enqueueDma (slR (hf c) j) (.remote (Dev.tc (py c)) (slO (hf c) j) (.dma (dq (2, j))) hsc) (.dma (dq (3, j))) hsrc hdst hsem) k) Q) := by
  iintro ⟨#Hr, Hs, Hd, HO, Ht, Ht'⟩ HK
  iapply (Rounds.wp_send_pointsTo 𝒱₀ ER (sw m).rd (c : Thread nD τ) none (c' := (py c : Thread nD τ)) (src := slR (hf c) j) (dst := slO (hf c) j)
      (κ₁ := K (c, .inr (2, j))) (κ₂ := K (py c, .inr (3, j)))
      (r₁ := 0) (r₂ := 0) (d₁ := false) (d₂ := false) (fs := got m c) (fd := fd)
      (mem_sw m c (2, j)) (mem_sw m (py c) (3, j)) () () N rfl
      (amount_at (sw m) c (.inr (2, j)) false) (amount_at (sw m) (py c) (.inr (3, j)) false)
      O rfl (W := W) (pay_sendy m c j) (pay_recvy m c j fd)) $$ [Hs Hd HO Ht Ht']
  · isplitr; · iapply (inv_at (sw m) K c (.inr (2, j))); iexact Hr
    isplitr; · iapply (inv_at (sw m) K (py c) (.inr (3, j))); iexact Hr
    isplitl [Hs]; · iexact Hs
    isplitl [Hd]; · iexact Hd
    isplitl [HO]; · iexact HO
    isplitl [Ht]; · iexact Ht
    isplitr; · iapply (reached_at (sw m) K c (.inr (2, j))); iexact Hr
    isplitl [Ht']; · iexact Ht'
    iapply (reached_at (sw m) K (py c) (.inr (3, j))); iexact Hr
  iintro ⟨Hc, HO⟩
  iapply HK
  isplitl [Hc]; · iexact Hc
  iexact HO

/-- The copy of chunk `j` into the device's own result. -/
theorem copy_loc {k : PUnit → Prog (TpuEff nD τ sig (Elt F) Λ₀ .tc) PUnit} {Q : PUnit → sProp 𝕄}
    (j : Fin 8) (fd : Buf (Elt F) ((c : Thread nD τ).loc main_v1)) {hsrc hdst hsem} :
    iprop(records (sw m) K ∗ ptR c (hf c) j fullShare.right (got m c) ∗ ptO c (hf c) j fullShare fd ∗ dutyTok ER (cell c (.inr (4, j))) 0 false)
      ⊢ iprop((cred (tallyAt (cell c (.inr (4, j))) () N) -∗ WP c (k ⟨⟩) Q)
        -∗ WP c (.op (.enqueueDma (slR (hf c) j) (.here (slO (hf c) j)) (.dma (dq (4, j))) hsrc hdst hsem) k) Q) := by
  iintro ⟨#Hr, Hs, Hd, Ht⟩ HK
  iapply (Rounds.wp_copy_pointsTo 𝒱₀ ER (sw m).rd (c : Thread nD τ) none (src := slR (hf c) j) (dst := slO (hf c) j)
      (κ := K (c, .inr (4, j))) (r := 0) (d := false) (fs := got m c) (fd := fd)
      (mem_sw m c (4, j)) () N rfl (amount_at (sw m) c (.inr (4, j)) false) (pay_loc m c j fd)) $$ [Hs Hd Ht]
  · isplitr; · iapply (inv_at (sw m) K c (.inr (4, j))); iexact Hr
    isplitl [Hs]; · iexact Hs
    isplitl [Hd]; · iexact Hd
    isplitl [Ht]; · iexact Ht
    iapply (reached_at (sw m) K c (.inr (4, j))); iexact Hr
  iintro Hc
  iapply HK
  iexact Hc

/-- The receive cells of the first axis are at level 2. -/
theorem lvk_x (j : Fin 8) : lvk (.inr (1, j)) ≤ 2 := by revert j; decide

/-- A chunk before it is forwarded, and after. -/
def A2 (i : Fin 8) : sProp 𝕄 :=
  iprop(cred (tallyAt (cell c (.inr (1, i))) () N) ∗ atPos ER (cell c (.inr (1, i))) 0 ∅ 0 ∗ (∃ f, ptO (py c) (hf c) i fullShare f) ∗ (∃ f, ptO c (hf c) i fullShare f)
    ∗ dutyTok ER (cell c (.inr (2, i))) 0 false ∗ dutyTok ER (cell (py c) (.inr (3, i))) 0 false ∗ dutyTok ER (cell c (.inr (4, i))) 0 false)
def B2 (i : Fin 8) : sProp 𝕄 :=
  iprop(cred (tallyAt (cell c (.inr (2, i))) () N) ∗ cred (tallyAt (cell c (.inr (4, i))) () N) ∗ atPos ER (cell c (.inr (1, i))) (0 + 1) ∅ 0)
/-- What device `c` holds while it forwards, `n` chunks forwarded. -/
def H2 (n : ℕ) : sProp 𝕄 :=
  iprop(records (sw m) K ∗ levAts L lv ∗ (∃ W, owes (c : Thread nD τ) (tail (fy (sw m) c) n) W) ∗ mix (A2 c) (B2 c) n)

/-- Chunk `j`: it is awaited, sent on across the second axis, and copied into the result. -/
theorem iter2 {R : sProp 𝕄} {k : PUnit → Prog (TpuEff nD τ sig (Elt F) Λ₀ .tc) PUnit} {Q : PUnit → sProp 𝕄}
    (j : Fin 8) {o4 : Fin 2 → ℕ} {o5 : Fin 3 → ℕ}
    (e4 : o4 = ![512 * (hf c).val + 64 * j.val, 0]) (e5 : o5 = ![0, 512 * (hf c).val + 64 * j.val, 0])
    {i4 : ∀ a, o4 a + S64x1024.size a ≤ S1024x1024.size a} {i5 : ∀ a, o5 a + S1x64x1024.size a ≤ S1x1024x1024.size a}
    {n : Dev nD} (hn : n = py c) {qx qs qr ql : DmaSem sig} (hqx : qx = dq (1, j)) (hqs : qs = dq (2, j)) (hqr : qr = dq (3, j)) (hql : ql = dq (4, j))
    {hw hw' hsc hsrc hdst hsem hsrc' hdst' hsem'}
    (h : iprop(H2 m K c (j.val + 1) ∗ R) ⊢ WP c (k ⟨⟩) Q) :
    iprop(H2 m K c j.val ∗ R) ⊢ WP c (.op (.waitDma2 qx (sB.slice (Rect.unit (s := S1024x1024) o4 S64x1024.size i4) (fun _ => rfl)) (rB.slice (Rect.unit (s := S1024x1024) o4 S64x1024.size i4) (fun _ => rfl)) hw hw') fun _ =>
      .op (.enqueueDma (rB.slice (Rect.unit (s := S1024x1024) o4 S64x1024.size i4) (fun _ => rfl))
        (.remote (Dev.tc n) ((oB.slice (Rect.unit (s := S1x1024x1024) o5 S1x64x1024.size i5) (fun _ => rfl)).squeeze S64x1024 squeezes_S1x64x1024_S64x1024) (.dma qs) hsc) (.dma qr) hsrc hdst hsem) fun _ =>
      .op (.enqueueDma (rB.slice (Rect.unit (s := S1024x1024) o4 S64x1024.size i4) (fun _ => rfl))
        (.here ((oB.slice (Rect.unit (s := S1x1024x1024) o5 S1x64x1024.size i5) (fun _ => rfl)).squeeze S64x1024 squeezes_S1x64x1024_S64x1024)) (.dma ql) hsrc' hdst' hsem') k) Q := by
  subst e4 e5 hn hqx hqs hqr hql
  unfold H2 at h ⊢
  iintro ⟨⟨#Hr, #Hlev, HO, HM⟩, HR⟩
  ihave HM := (mix_step (A2 c) (B2 c) j) $$ HM
  icases HM with ⟨HA, HM⟩
  unfold A2
  icases HA with ⟨Hc, Hat, ⟨%fd, Hd⟩, ⟨%fe, He⟩, Ht2, Ht3, Ht4⟩
  iapply (wait_dma (sw m) K c (1, j) rfl rfl (amt_slR (hf c) j) (Above.tail (above_fy (sw m) c) j.val) (lvk_x j)) $$ [Hc HO Hat]
  · isplitr; · iexact Hr
    isplitr; · iexact Hlev
    isplitl [Hc]; · iexact Hc
    isplitl [HO]; · iexact HO
    iexact Hat
  iintro ⟨⟨%W, HO⟩, Hat, Hp⟩
  ihave Hp := (show ((sw m).P c (.inr (1, j)) false : sProp 𝕄) ⊢ iprop(ptR c (hf c) j fullShare.left (got m c) ∗ ptR c (hf c) j fullShare.right (got m c))
    from (pointsTo_share (PosShare.mem_left_op_right fullShare)).1) $$ Hp
  icases Hp with ⟨Hl, Hrt⟩
  ihave HO := (Entails.of_eq (congrArg (fun O => (owes (c : Thread nD τ) O W : sProp 𝕄)) (tail_step (fy (sw m) c) j))) $$ HO
  iapply (send_y m K c j fd (O := tail (fy (sw m) c) (j.val + 1)) (W := W)) $$ [Hl Hd HO Ht2 Ht3]
  · isplitr; · iexact Hr
    isplitl [Hl]; · iexact Hl
    isplitl [Hd]; · iexact Hd
    isplitl [HO]; · iexact HO
    isplitl [Ht2]; · iexact Ht2
    iexact Ht3
  iintro ⟨Hc2, HO⟩
  iapply (copy_loc m K c j fe) $$ [Hrt He Ht4]
  · isplitr; · iexact Hr
    isplitl [Hrt]; · iexact Hrt
    isplitl [He]; · iexact He
    iexact Ht4
  iintro Hc4
  iapply h
  isplitr [HR]
  · isplitr; · iexact Hr
    isplitr; · iexact Hlev
    isplitl [HO]; · iexists _; iexact HO
    iapply HM
    unfold B2
    isplitl [Hc2]; · iexact Hc2
    isplitl [Hc4]; · iexact Hc4
    iexact Hat
  iexact HR

/-! ### The closing waits -/

/-- A cell of kind `d` and chunk `i` before it is waited on, and after. -/
def AW (d : Fin 5) (i : Fin 8) : sProp 𝕄 := iprop(cred (tallyAt (cell c (.inr (d, i))) () N) ∗ atPos ER (cell c (.inr (d, i))) 0 ∅ 0)
def BW (d : Fin 5) (i : Fin 8) : sProp 𝕄 := iprop(swPay m c (d, i) ∗ atPos ER (cell c (.inr (d, i))) (0 + 1) ∅ 0)
/-- What device `c` holds in the closing waits, with so many cells of each kind waited on. -/
def SW (n0 n2 n3 n4 : ℕ) : sProp 𝕄 :=
  iprop(records (sw m) K ∗ levAts L lv ∗ (∃ W, owes (c : Thread nD τ) 0 W) ∗ mix (AW c 0) (BW m c 0) n0 ∗ mix (AW c 2) (BW m c 2) n2
    ∗ mix (AW c 3) (BW m c 3) n3 ∗ mix (AW c 4) (BW m c 4) n4)

/-- No DMA cell is above level 3. -/
theorem lvk_le (q : Fin 5 × Fin 8) : lvk (.inr q) ≤ 3 := by revert q; decide

/-- The wait on one cell. -/
theorem wait_one {k : PUnit → Prog (TpuEff nD τ sig (Elt F) Λ₀ .tc) PUnit} {Q : PUnit → sProp 𝕄}
    (d : Fin 5) (j : Fin 8) {sp sp' : Space} {s s' : Shape} {e e' : EltTy} {qq : DmaSem sig} (hq : qq = dq (d, j))
    {src : Memref sig .tc sp' s' e'} {dst : Memref sig .tc sp s e} {hsrc hdst} (hN : dst.view.dmaCredit = N) :
    iprop(records (sw m) K ∗ levAts L lv ∗ (∃ W, owes (c : Thread nD τ) 0 W) ∗ mix (AW c d) (BW m c d) j.val)
      ⊢ iprop((((∃ W, owes (c : Thread nD τ) 0 W) ∗ mix (AW c d) (BW m c d) (j.val + 1)) -∗ WP c (k ⟨⟩) Q)
          -∗ WP c (.op (.waitDma2 qq src dst hsrc hdst) k) Q) := by
  iintro ⟨#Hr, #Hlev, HO, HM⟩ HK
  ihave HM := (mix_step (AW c d) (BW m c d) j) $$ HM
  icases HM with ⟨HA, HM⟩
  unfold AW
  icases HA with ⟨Hc, Hat⟩
  iapply (wait_dma (sw m) K c (d, j) rfl hq hN (Above.zero 3) (lvk_le (d, j))) $$ [Hc HO Hat]
  · isplitr; · iexact Hr
    isplitr; · iexact Hlev
    isplitl [Hc]; · iexact Hc
    isplitl [HO]; · iexact HO
    iexact Hat
  iintro ⟨HO, Hat, Hp⟩
  iapply HK
  isplitl [HO]; · iexact HO
  iapply HM
  unfold BW
  isplitl [Hp]; · iapply (Entails.of_eq (show ((sw m).P c (.inr (d, j)) false : sProp 𝕄) = swPay m c (d, j) from rfl)); iexact Hp
  iexact Hat

/-- The wait on chunk `j`'s send cell of the first axis. -/
theorem iter3 {R : sProp 𝕄} {k : PUnit → Prog (TpuEff nD τ sig (Elt F) Λ₀ .tc) PUnit} {Q : PUnit → sProp 𝕄}
    (j : Fin 8) {n2 n3 n4 : ℕ} {sp sp' : Space} {s s' : Shape} {e e' : EltTy} {qq : DmaSem sig} (hq : qq = dq (0, j))
    {src : Memref sig .tc sp' s' e'} {dst : Memref sig .tc sp s e} {hsrc hdst} (hN : dst.view.dmaCredit = N)
    (h : iprop(SW m K c (j.val + 1) n2 n3 n4 ∗ R) ⊢ WP c (k ⟨⟩) Q) :
    iprop(SW m K c j.val n2 n3 n4 ∗ R) ⊢ WP c (.op (.waitDma2 qq src dst hsrc hdst) k) Q := by
  unfold SW at h ⊢
  iintro ⟨⟨#Hr, #Hlev, HO, H0, H2, H3, H4⟩, HR⟩
  iapply (wait_one m K c 0 j hq hN) $$ [HO H0]
  · isplitr; · iexact Hr
    isplitr; · iexact Hlev
    isplitl [HO]; · iexact HO
    iexact H0
  iintro ⟨HO, H0⟩
  iapply h
  isplitr [HR]
  · isplitr; · iexact Hr
    isplitr; · iexact Hlev
    isplitl [HO]; · iexact HO
    isplitl [H0]; · iexact H0
    isplitl [H2]; · iexact H2
    isplitl [H3]; · iexact H3
    iexact H4
  iexact HR

/-- The wait on chunk `j`'s send cell of the second axis. -/
theorem iter4s {R : sProp 𝕄} {k : PUnit → Prog (TpuEff nD τ sig (Elt F) Λ₀ .tc) PUnit} {Q : PUnit → sProp 𝕄}
    (j : Fin 8) {n0 n3 n4 : ℕ} {sp sp' : Space} {s s' : Shape} {e e' : EltTy} {qq : DmaSem sig} (hq : qq = dq (2, j))
    {src : Memref sig .tc sp' s' e'} {dst : Memref sig .tc sp s e} {hsrc hdst} (hN : dst.view.dmaCredit = N)
    (h : iprop(SW m K c n0 (j.val + 1) n3 n4 ∗ R) ⊢ WP c (k ⟨⟩) Q) :
    iprop(SW m K c n0 j.val n3 n4 ∗ R) ⊢ WP c (.op (.waitDma2 qq src dst hsrc hdst) k) Q := by
  unfold SW at h ⊢
  iintro ⟨⟨#Hr, #Hlev, HO, H0, H2, H3, H4⟩, HR⟩
  iapply (wait_one m K c 2 j hq hN) $$ [HO H2]
  · isplitr; · iexact Hr
    isplitr; · iexact Hlev
    isplitl [HO]; · iexact HO
    iexact H2
  iintro ⟨HO, H2⟩
  iapply h
  isplitr [HR]
  · isplitr; · iexact Hr
    isplitr; · iexact Hlev
    isplitl [HO]; · iexact HO
    isplitl [H0]; · iexact H0
    isplitl [H2]; · iexact H2
    isplitl [H3]; · iexact H3
    iexact H4
  iexact HR

/-- The wait on chunk `j`'s receive cell of the second axis. -/
theorem iter4r {R : sProp 𝕄} {k : PUnit → Prog (TpuEff nD τ sig (Elt F) Λ₀ .tc) PUnit} {Q : PUnit → sProp 𝕄}
    (j : Fin 8) {n0 n2 n4 : ℕ} {sp sp' : Space} {s s' : Shape} {e e' : EltTy} {qq : DmaSem sig} (hq : qq = dq (3, j))
    {src : Memref sig .tc sp' s' e'} {dst : Memref sig .tc sp s e} {hsrc hdst} (hN : dst.view.dmaCredit = N)
    (h : iprop(SW m K c n0 n2 (j.val + 1) n4 ∗ R) ⊢ WP c (k ⟨⟩) Q) :
    iprop(SW m K c n0 n2 j.val n4 ∗ R) ⊢ WP c (.op (.waitDma2 qq src dst hsrc hdst) k) Q := by
  unfold SW at h ⊢
  iintro ⟨⟨#Hr, #Hlev, HO, H0, H2, H3, H4⟩, HR⟩
  iapply (wait_one m K c 3 j hq hN) $$ [HO H3]
  · isplitr; · iexact Hr
    isplitr; · iexact Hlev
    isplitl [HO]; · iexact HO
    iexact H3
  iintro ⟨HO, H3⟩
  iapply h
  isplitr [HR]
  · isplitr; · iexact Hr
    isplitr; · iexact Hlev
    isplitl [HO]; · iexact HO
    isplitl [H0]; · iexact H0
    isplitl [H2]; · iexact H2
    isplitl [H3]; · iexact H3
    iexact H4
  iexact HR

/-- The wait on chunk `j`'s local-copy cell. -/
theorem iter5 {R : sProp 𝕄} {k : PUnit → Prog (TpuEff nD τ sig (Elt F) Λ₀ .tc) PUnit} {Q : PUnit → sProp 𝕄}
    (j : Fin 8) {n0 n2 n3 : ℕ} {sp sp' : Space} {s s' : Shape} {e e' : EltTy} {qq : DmaSem sig} (hq : qq = dq (4, j))
    {src : Memref sig .tc sp' s' e'} {dst : Memref sig .tc sp s e} {hsrc hdst} (hN : dst.view.dmaCredit = N)
    (h : iprop(SW m K c n0 n2 n3 (j.val + 1) ∗ R) ⊢ WP c (k ⟨⟩) Q) :
    iprop(SW m K c n0 n2 n3 j.val ∗ R) ⊢ WP c (.op (.waitDma2 qq src dst hsrc hdst) k) Q := by
  unfold SW at h ⊢
  iintro ⟨⟨#Hr, #Hlev, HO, H0, H2, H3, H4⟩, HR⟩
  iapply (wait_one m K c 4 j hq hN) $$ [HO H4]
  · isplitr; · iexact Hr
    isplitr; · iexact Hlev
    isplitl [HO]; · iexact HO
    iexact H4
  iintro ⟨HO, H4⟩
  iapply h
  isplitr [HR]
  · isplitr; · iexact Hr
    isplitr; · iexact Hlev
    isplitl [HO]; · iexact HO
    isplitl [H0]; · iexact H0
    isplitl [H2]; · iexact H2
    isplitl [H3]; · iexact H3
    iexact H4
  iexact HR

end Swap

end Cert.KIProof

end
-- ==== Proof.Launch.lean ====
/-
# The launch, for any plan

From a proof that the body runs under a plan (`BodyRuns`), the run of the whole program: every device's cells are
opened at their round 0, the tokens go to the devices that pay, the credit to the devices that wait; at the end the
result of each device is read, its inputs are unchanged and every semaphore counter is zero.
-/
module

public import proofs.«01_k».proof.Proof.Cells
public import proofs.«01_k».proof.Proof.Gen.KernelIdeal.Points
public import Idealize.ShloMosaic.Lib.Pipeline.CollectiveSegs

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (p : Plan F) (OUT : (c : Dev nD) → Buf (Elt F) ((c : Thread nD τ).loc main_v1))

/-- The memory at launch: arbitrary contents, every semaphore counter zero, arbitrary generator registers. -/
def s₀ : MemSt nD τ sig (Elt F) := ⟨m, fun _ => 0, ρ⟩

/-! ## The pipeline's proof data -/

/-- The grid has one step, -/
theorem cfg0_N : cfg0.N = 1 := by decide
/-- namely this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- What device `c`'s body starts from, but for its scratch buffers. -/
def start (c : Dev nD) : sProp 𝕄 :=
  iprop((∃ K, ghost p K c) ∗ creds p c ∗ levAts L lv ∗ (((c : Thread nD τ).loc main_v1) ↦{fullShare} m ((c : Thread nD τ).loc main_v1)))
/-- What a device holds at the step's start, besides what is staged, -/
def Φ₀ (c : Dev nD) : sProp 𝕄 := iprop(start m p c ∗ scratch c)
/-- and at its end. -/
def Φ₁ (c : Dev nD) : sProp 𝕄 := iprop((((c : Thread nD τ).loc main_v1) ↦{fullShare} OUT c) ∗ zeros c ∗ scratch c)

/-- What the pipeline is told: each window's contents, and what a device holds and owes before and after the step. -/
def dats (_ : Fin 1) (c : Dev nD) : Dat τ (Elt F) Unit ℕ UU ℕ cfg0 c where
  A w := m ((cfg0.win w).arr.view.loc (c : Thread nD τ))
  after w _ := match w with
    | ⟨0, _⟩ => tstg m c
    | ⟨1, _⟩ => xstg m c
  Φ t := match t with
    | ⟨0, _⟩ => Φ₀ m p c
    | ⟨_ + 1, _⟩ => Φ₁ OUT c
  q _ := fullShare
  owed t := match t with
    | ⟨0, _⟩ => O₀ p c
    | ⟨_ + 1, _⟩ => 0

omit [FloatOps F] in
/-- A family over the two windows is its two members. -/
theorem bigSep_W (Φ : Fin cfg0.W → sProp 𝕄) : bigSep Finset.univ Φ = iprop(Φ (0 : Fin 2) ∗ Φ (1 : Fin 2)) := bigSep_W0 Φ

omit [FloatOps F] in
/-- Owning a whole staged buffer with contents `X` is holding it with contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer of device `c` with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- The body's start as the pipeline gives it, -/
def pre' (c : Dev nD) : sProp 𝕄 :=
  iprop(Φ₀ m p c ∗ (dats m p OUT 0 c).owesAt () t₀.castSucc
    ∗ (∃ d, stg c cc0_stg0_0 ((dats m p OUT 0 c).before (0 : Fin 2) t₀ d))
    ∗ (∃ d, stg c cc0_stg1_0 ((dats m p OUT 0 c).before (1 : Fin 2) t₀ d)))
/-- and its end as the pipeline wants it. -/
def post' (c : Dev nD) : sProp 𝕄 :=
  iprop(Φ₁ OUT c ∗ (dats m p OUT 0 c).owesAt () t₀.succ ∗ stg c cc0_stg0_0 (tstg m c) ∗ stg c cc0_stg1_0 (xstg m c))

set_option maxRecDepth 4000 in
/-- The library's body obligation on core `c`, from the body's contract. -/
theorem body_obligation (hb : BodyRuns m p OUT) (c : Dev nD) : BodyObligation (dats (F := F) m p OUT 0 c) (defs₀ (F := F)) 𝒱₀ () Set.univ := fun t => by
  rw [fin_N t]
  rw [bigSep_W, bigSep_W]
  simp only [owns_whole_eq]
  show pre' m p OUT c ⊢ wp frame (wpE (defs₀ (F := F)) 𝒱₀ c none) Set.univ bodyAt (fun _ => post' m p OUT c)
  unfold pre' Φ₀ start
  iintro ⟨⟨⟨⟨%K, Hg⟩, Hc, Hl, Hv⟩, Hscr⟩, Ho, ⟨%d0, %g0, %hg0, H0⟩, ⟨%d1, %g1, %hg1, H1⟩⟩
  have h0 : g0 = tstg m c := by rw [hg0]; unfold Dat.before; rw [if_pos (fetch0_0 t₀)]; rfl
  have h1 : g1 = xstg m c := by rw [hg1]; unfold Dat.before; rw [if_pos (fetch0_1 t₀)]; rfl
  subst h0 h1
  unfold Dat.owesAt Pipeline.owesWithin
  icases Ho with ⟨%W, %hW, HO⟩
  iapply (hb c K fun _ => post' m p OUT c)
  unfold bodyPre staged
  isplitr []
  · isplitl [Hg]; · iexact Hg
    isplitl [Hc]; · iexact Hc
    isplitl [Hl]; · iexact Hl
    isplitl [Hv]; · iexact Hv
    isplitl [Hscr]; · iexact Hscr
    isplitl [HO]; · iexists W; iexact HO
    isplitl [H0]; · iexact H0
    iexact H1
  · unfold bodyPost post' Φ₁ staged Dat.owesAt Pipeline.owesWithin
    iintro ⟨HΦ, ⟨%W', HO⟩, H0, H1⟩
    isplitl [HΦ]; · iexact HΦ
    isplitl [HO]
    · iexists W'
      isplitr; · (ipureintro; exact fun _ _ => Or.inl trivial)
      iexact HO
    isplitl [H0]
    · iexists _; isplitr; · (ipureintro; rfl)
      iexact H0
    iexists _; isplitr; · (ipureintro; rfl)
    iexact H1

/-! ## The launch -/

/-- The kernel's DMA semaphores. -/
abbrev osem (q : Fin 5 × Fin 8) : SemLoc sig := .dma (dq q)

/-- They are scoped, distinct, and none of the pipeline's. -/
theorem ownSemFacts : Pipeline.OwnSemFacts cfg0.spec osem := by decide

/-- Every window is held whole. -/
theorem share_eq (c : Dev nD) (w : Fin cfg0.W) : (dats m p OUT 0 c).share w = fullShare := by unfold Dat.share; split <;> rfl

/-- A cell from its device and its place. -/
abbrev kcell (ck : Dev nD × CI) : GSem nD τ sig := cell ck.1 ck.2
/-- Different pairs are different cells. -/
theorem kcell_injective : Function.Injective kcell := fun a b h => Prod.ext (cell_iff.mp h).1 (cell_iff.mp h).2
/-- All the kernel's cells on all devices. -/
def ringCells : Finset (GSem nD τ sig) := Finset.univ.map ⟨kcell, kcell_injective⟩

/-- A device's own cells' duty tokens as minted: its barrier's two, and one for each DMA cell. -/
abbrev TI : Type := Bool ⊕ (Fin 5 × Fin 8)
/-- The duty that a token stands for. -/
def tokOf (cj : Dev nD × TI) : GSem nD τ sig × ℕ × Bool := match cj.2 with
  | .inl b => (cell cj.1 (.inl ()), 0, b)
  | .inr q => (cell cj.1 (.inr q), 0, false)
/-- Different tokens stand for different duties. -/
theorem tokOf_injective : Function.Injective tokOf := by
  rintro ⟨c, b | q⟩ ⟨c', b' | q'⟩ h
  · have h1 := (cell_iff.mp (congrArg Prod.fst h)).1
    have h2 : b = b' := congrArg (fun x : GSem nD τ sig × ℕ × Bool => x.2.2) h
    dsimp only at h1; subst h1 h2; rfl
  · exact absurd (cell_iff.mp (congrArg Prod.fst h)).2 (fun e => by cases e)
  · exact absurd (cell_iff.mp (congrArg Prod.fst h)).2 (fun e => by cases e)
  · have h1 := cell_iff.mp (congrArg Prod.fst h)
    have h2 : q = q' := Sum.inr.inj h1.2
    have h3 := h1.1; dsimp only at h3; subst h3 h2; rfl
/-- All the duties on all devices. -/
def ringToks : Finset (GSem nD τ sig × ℕ × Bool) := Finset.univ.map ⟨tokOf, tokOf_injective⟩

/-- The ghost state at launch: the pipeline's and the kernel's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (cell c (.inl ())) 0 false ∗ dutyTok ER (cell c (.inl ())) 0 true)
    ∗ bigSep Finset.univ fun q : Fin 5 × Fin 8 => dutyTok ER (cell c (.inr q)) 0 false)

/-- What the launch element deals device `c`. -/
def G (c : Dev nD) : sProp 𝕄 :=
  iprop((bigSep Finset.univ fun k : CI => roundState ER p.rd (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost p K c)

omit [FloatOps F] in
/-- The kernel's ghost state at launch gives every device its part. -/
theorem fund_ring : BI.own (ER (initOf ringCells ringToks)) ⊢ (|==> bigSep Finset.univ (G p) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [false, true] (by decide) (by decide), bigSepL_cons_cons, bigSepL_singleton]
    rfl
  iintro HX
  imod (Rounds.fund ER p.rd ringCells ringToks) $$ HX with ⟨Hst, Hr, Hat, Htok⟩
  imodintro
  ihave Hst' := (Entails.of_eq (hX fun g => roundState ER p.rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (cell c (.inl ())) 0 := by
  unfold unscopedSems0; rw [bigSep_eq_bigSepL_of_eq [SemLoc.reg barS] (by decide) (by decide)]; rfl

omit [FloatOps F] in
/-- A device's cells at zero are its barrier and its DMA cells at zero. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_sum, bigSep_univ_eq_bigSepL [()] (by decide) (by decide), bigSepL_singleton]
  rfl

omit [FloatOps F] in
/-- One device's cells at zero, with their round states, become invariants; positions and tokens are kept. -/
theorem core_alloc (c : Dev nD) :
    iprop(Pipeline.ownSems0 (Ix := Unit) (Name := ℕ) (U := UU) (Lvl := ℕ) (Val := Elt F) (τ := τ) osem c ∗ unscopedSems0 c ∗ G p c)
      ⊢ |={Set.univ}=> iprop((bigSep Finset.univ fun k => iprop(∃ κ : ℕ, cellInv ER p.rd κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : CI => semVal (kcell (c, k)) 0) ∗ bigSep Finset.univ fun k : CI => roundState ER p.rd (kcell (c, k)) 0)
      ⊢ (|={Set.univ}=> bigSep Finset.univ fun k => iprop(∃ κ : ℕ, cellInv ER p.rd κ (kcell (c, k))) : sProp 𝕄) from by
        rw [← bigSep_sep']
        exact (bigSep_mono fun k _ => (Rounds.body_intro ER p.rd (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What a device has of the ghost state for itself alone. -/
def linear (c : Dev nD) : sProp 𝕄 := iprop(positions c ∗ payToks c)

omit [FloatOps F] in
/-- The records and a device's own part are its ghost state. -/
theorem ghost_intro (K : Dev nD × CI → ℕ) (c : Dev nD) : iprop(records p K ∗ linear c) ⊢ G' p c := by
  unfold linear G' ghost
  iintro ⟨HR, HP, HT⟩
  iexists K
  isplitl [HR]; · iexact HR
  isplitl [HP]; · iexact HP
  iexact HT

omit [FloatOps F] in
/-- Two nested families may be read in either order. -/
theorem bigSep_swap {A B : Type} [Fintype A] [DecidableEq A] [Fintype B] [DecidableEq B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

omit [FloatOps F] in
/-- The tokens dealt to the devices that pay. -/
theorem toks_around : (bigSep Finset.univ fun c : Dev nD => (toks c : sProp 𝕄)) ⊢ bigSep Finset.univ fun c : Dev nD => payToks c := by
  have h : (bigSep Finset.univ fun c : Dev nD => bigSep Finset.univ fun q : Fin 5 × Fin 8 => (dutyTok ER (cell c (.inr q)) 0 false : sProp 𝕄))
      = bigSep Finset.univ fun c : Dev nD => bigSep Finset.univ fun q : Fin 5 × Fin 8 => dutyTok ER (cell (peer q.1 c) (.inr q)) 0 false := by
    rw [bigSep_swap, bigSep_swap (fun (c : Dev nD) (q : Fin 5 × Fin 8) => (dutyTok ER (cell (peer q.1 c) (.inr q)) 0 false : sProp 𝕄))]
    exact bigSep_congr fun q _ => bigSep_univ_equiv (peer q.1) (fun c : Dev nD => (dutyTok ER (cell c (.inr q)) 0 false : sProp 𝕄))
  unfold toks payToks
  rw [bigSep_sep', bigSep_sep', bigSep_sep', bigSep_sep', h,
    bigSep_univ_equiv ex (fun c : Dev nD => (dutyTok ER (cell c (.inl ())) 0 false : sProp 𝕄)),
    bigSep_univ_equiv ey (fun c : Dev nD => (dutyTok ER (cell c (.inl ())) 0 true : sProp 𝕄))]
  iintro ⟨⟨H1, H2⟩, H3⟩
  isplitl [H1]; · iexact H1
  isplitl [H2]; · iexact H2
  iexact H3

omit [FloatOps F] in
/-- What may be used any number of times may be used for each member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The invariants, rounds, positions and tokens of all devices, the tokens passed on to those who pay, are each device's
    ghost state. -/
theorem regroup :
    (bigSep Finset.univ fun c : Dev nD => iprop((bigSep Finset.univ fun k => iprop(∃ κ : ℕ, cellInv ER p.rd κ (kcell (c, k))))
          ∗ (bigSep Finset.univ fun k => iprop(atPos ER (kcell (c, k)) 0 ∅ 0 ∗ reached ER (kcell (c, k)) 0)) ∗ toks c) : sProp 𝕄)
      ⊢ bigSep Finset.univ (G' p) := by
  rw [bigSep_sep', bigSep_sep', ← bigSep_univ_prod (fun ck : Dev nD × CI => iprop(∃ κ : ℕ, cellInv ER p.rd κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER p.rd κ (kcell ck) : sProp 𝕄))) $$ HI
  icases HK with ⟨%K, #HI⟩
  ihave Htk := (toks_around (F := F)) $$ Htok
  iapply (bigSep_with_persistent (R := records p K) fun c _ => ghost_intro p K c)
  isplitr
  · unfold records; isplitl; · iexact HI
    iexact HR
  · unfold linear positions; rw [bigSep_sep']
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G p c) : sProp 𝕄)
    ⊢ |={Set.univ}=> bigSep Finset.univ (G' p) :=
  ((bigSep_mono fun c _ => core_alloc p c).trans (bigSep_fupd _ _)).trans (BI.fupd_mono (regroup p))

/-! ### The launch credit -/

omit [FloatOps F] in
/-- What the devices together owe one cell, each owing the cell `k'` of its neighbour `σ d` `n` units. -/
theorem sum_tally (σ : Dev nD ≃ Dev nD) (c : Dev nD) (k k' : CI) (n : ℕ) :
    ∑ d : Dev nD, (tallyAt (cell (σ d) k') () n : CellTallies nD τ sig Unit) (cell c k) () = if k' = k then n else 0 := by
  simp only [tallyAt_apply]
  by_cases hk : k' = k
  · subst hk
    rw [if_pos rfl, Finset.sum_eq_single (σ.symm c)]
    · exact if_pos ⟨by rw [Equiv.apply_symm_apply], trivial⟩
    · intro d _ hd
      refine if_neg fun h => hd ?_
      have := (cell_iff.mp h.1).1; rw [this, Equiv.symm_apply_apply]
    · exact fun h => absurd (Finset.mem_univ _) h
  · rw [if_neg hk]
    exact Finset.sum_eq_zero fun d _ => if_neg fun h => hk ((cell_iff.mp h.1).2).symm

omit [FloatOps F] in
/-- What all chunks owe to one cell is the sum over the chunks. -/
theorem tail_apply (f : Fin 8 → CellTallies nD τ sig Unit) (g : GSem nD τ sig) : tail f 0 g () = ∑ i : Fin 8, f i g () := by
  unfold tail
  rw [Finset.sum_apply, Finsupp.finsetSum_apply]
  exact Finset.sum_congr rfl fun i _ => by rw [if_pos (Nat.zero_le _)]

omit [FloatOps F] in
/-- Of the debts to the eight cells of one kind, one cell is owed its own. -/
theorem sum_kind (a : Fin 5) (k : CI) (n : ℕ) :
    (∑ i : Fin 8, if (Sum.inr (a, i) : CI) = k then n else 0) = match k with | .inl _ => 0 | .inr q => if q.1 = a then n else 0 := by
  rcases k with u | ⟨b, j⟩
  · exact Finset.sum_eq_zero fun i _ => if_neg (fun h => by cases h)
  · dsimp only
    by_cases h : b = a
    · subst h
      rw [if_pos rfl, Finset.sum_eq_single j]
      · exact if_pos rfl
      · intro i _ hi; exact if_neg fun e => hi (congrArg Prod.snd (Sum.inr.inj e))
      · exact fun h => absurd (Finset.mem_univ _) h
    · rw [if_neg h]
      exact Finset.sum_eq_zero fun i _ => if_neg fun e => h (congrArg Prod.fst (Sum.inr.inj e)).symm

omit [FloatOps F] in
/-- All that the devices owe to a cell at launch is the credit dealt for it. -/
theorem owed_total (c : Dev nD) (k : CI) : ∑ d : Dev nD, O₀ p d (cell c k) () = due p k := by
  unfold O₀ O₁ Oxy
  simp only [Pi.add_apply, Finsupp.add_apply, tail_apply, Finset.sum_add_distrib]
  rw [Finset.sum_comm, Finset.sum_comm (f := fun (d : Dev nD) (i : Fin 8) => fx p d i (cell c k) ())]
  unfold fx fy
  have e1 (i : Fin 8) := sum_tally ey c k (.inr (3, i)) p.R
  have e2 (i : Fin 8) := sum_tally ex c k (.inr (1, i)) p.R
  have e3 := sum_tally ey c k (.inl ()) 1
  have e4 := sum_tally ex c k (.inl ()) 1
  have e1' := (Finset.sum_congr rfl fun i _ => e1 i).trans (sum_kind 3 k p.R)
  have e2' := (Finset.sum_congr rfl fun i _ => e2 i).trans (sum_kind 1 k p.R)
  refine (congrArg₂ (· + ·) (congrArg₂ (· + ·) (congrArg₂ (· + ·) e1' e2') e3) e4).trans ?_
  rcases k with u | ⟨b, j⟩
  · rfl
  · simp only [due, reduceCtorEq, if_false, Nat.add_zero]
    by_cases h1 : b = 1
    · subst h1; simp
    · by_cases h3 : b = 3
      · subst h3; simp
      · simp [h1, h3]

omit [FloatOps F] in
/-- The launch credit of a cell is what the plan says. -/
theorem launch_cell (c : Dev nD) (k : CI) :
    tallyOn (cell c k) (launchCredit (Pipeline.owing (O₀ p)) 0 (cell c k)) = (tallyAt (cell c k) () (due p k) : CellTallies nD τ sig Unit) := by
  unfold tallyAt; refine congrArg _ (Finsupp.ext fun u => ?_); cases u
  rw [Pipeline.launchCredit_owing, Finsupp.single_eq_same, owed_total]

omit [FloatOps F] in
/-- A device's launch credit has the credit of all its cells. -/
theorem creds_intro (c : Dev nD) : (Pipeline.launchCred (O₀ p) c : sProp 𝕄) ⊢ creds p c := by
  unfold Pipeline.launchCred creds
  refine (BI.bigSep_subset (Finset.subset_univ (Finset.univ.map ⟨sm, sm_inj⟩))).trans ?_
  rw [bigSep_map]
  exact bigSep_mono fun k _ => Entails.of_eq (congrArg (fun x => (cred x : sProp 𝕄)) (launch_cell p c k))

/-! ### The theorem's side conditions -/

omit [FloatOps F] in
/-- What a device has at launch, besides its scratch buffers. -/
theorem start_intro (c : Dev nD) :
    iprop(Pipeline.unscopedRestP Pipeline.Prefetch.none cfg0.spec c (fun b => m ((c : Thread nD τ).loc b)) ∗ levAts L lv
        ∗ Pipeline.launchCred (O₀ p) c ∗ prngReg c (ρ c) ∗ G' p c)
      ⊢ |={Set.univ}=> iprop(start m p c ∗ emp) := by
  rw [Pipeline.unscopedRestP_none]
  rw [unscopedRest0_eq]
  iintro ⟨Hv, Hlev, Hcr, -, HG⟩
  ihave Hc := (creds_intro (F := F) p c) $$ Hcr
  imodintro
  unfold start G'
  isplitl
  · isplitl [HG]; · iexact HG
    isplitl [Hc]; · iexact Hc
    isplitl [Hlev]; · iexact Hlev
    iexact Hv
  · iempintro

/-- With the scratch buffers it is what the step starts with. -/
theorem phi0_intro (c : Dev nD) :
    iprop(start m p c ∗ Pipeline.prefHeld Pipeline.Prefetch.none c (fun _ => fullShare.right) (fun k => k.elim0) ∗ Pipeline.scopedRest cfg0.spec c)
      ⊢ (dats m p OUT 0 c).Φ 0 := by
  rw [show (dats m p OUT 0 c).Φ 0 = Φ₀ m p c from rfl, scopedRest0_eq]
  unfold Φ₀ scratch
  iintro ⟨Hs, -, Hr⟩
  isplitl [Hs]; · iexact Hs
  iexact Hr

/-- What a device keeps past the kernel: its result, and its barrier cell at zero. -/
def Y (c : Dev nD) : sProp 𝕄 := iprop((((c : Thread nD τ).loc main_v1) ↦{fullShare} OUT c) ∗ unscopedSems0 c)

/-- What the step ends with is the result, the cells at zero and the scratch buffers. -/
theorem phi1_exit (c : Dev nD) :
    (dats m p OUT 0 c).Φ (Fin.last cfg0.N) ⊢ iprop(Y OUT c ∗ Pipeline.ownSems0 osem c ∗ Pipeline.scopedRest cfg0.spec c) := by
  rw [show (dats m p OUT 0 c).Φ (Fin.last cfg0.N) = Φ₁ OUT c from rfl, scopedRest0_eq]
  unfold Φ₁ Y scratch
  rw [zeros_eq]
  iintro ⟨Hv, ⟨HB, HD⟩, Hr⟩
  isplitl [Hv HB]
  · isplitl [Hv] <;> iassumption
  isplitl [HD]; · iexact HD
  iexact Hr

/-- The pipeline's own waits are allowed whatever a device still owes. -/
theorem waits (c : Dev nD) : (levAts L lv : sProp 𝕄) ⊢ Pipeline.cellsWaits cfgs (dats m p OUT) () 0 c :=
  Pipeline.cellsWaits_intro cfgs (dats m p OUT) () 0 c fun w s t =>
    mayWait (n := 0) (by
      rcases t with ⟨_ | _, ht⟩
      · exact above_O₀ p c
      · exact Above.zero 0) c _ (by fin_cases w <;> fin_cases s <;> decide)

/-! ### The run -/

/-- What the run ends with: on every device the result is `OUT`, both inputs hold what they held. -/
def Ends (r : PUnit × MemSt nD τ sig (Elt F)) : Prop :=
  ∀ c : Dev nD, r.2.mem ((c : Thread nD τ).loc main_v1) = OUT c
    ∧ r.2.mem ((c : Thread nD τ).loc main_arg0) = m ((c : Thread nD τ).loc main_arg0)
    ∧ r.2.mem ((c : Thread nD τ).loc main_arg1) = m ((c : Thread nD τ).loc main_arg1)

omit [FloatOps F] in
/-- From what a device keeps, the final memory has its result and its unscoped semaphores read zero. -/
theorem read_Y (c : Dev nD) (s' : Phys nD τ sig (Elt F)) :
    iprop(Y OUT c ∗ emp ∗ SI s') ⊢ |={Set.univ}=> iprop(⌜s'.mem.mem ((c : Thread nD τ).loc main_v1) = OUT c
      ∧ ∀ s : SemLoc sig, s.isScoped .tc = false → s'.mem.sem ((c.tc : Thread nD τ), s) = 0⌝ ∗ (SI s' : sProp 𝕄)) := by
  unfold Y
  iintro ⟨⟨Hv, Hu⟩, -, HSI⟩
  icombine HSI Hv gives %h
  imod (Pipeline.unscopedSems0_read (X := unscopedSems0 c) (c := c) fupd_intro s') $$ [Hu HSI] with ⟨%hz, HSI⟩
  · isplitl [Hu] <;> iassumption
  imodintro
  isplitr
  · ipureintro; exact ⟨funext fun i => h i (Finset.mem_univ i), hz⟩
  iexact HSI

set_option maxRecDepth 8000 in
/-- If the body runs under a plan, every weakly fair execution of @main from any memory with zero counters terminates,
    and every final state has the result, the inputs unchanged and every semaphore counter at zero. -/
theorem run_main (hb : BodyRuns m p OUT) : θ_run defs (onTc (τ := τ) (main (F := F))) (s₀ m ρ) (fun r => Ends m OUT r ∧ r.2.sem = fun _ => 0) :=
  Pipeline.θ_run_region_owing_glob_pf (fun p => (cfgs p).toPCfg) (fun p => (cfgs p).toPCfg_adm) (dats m p OUT) () cellOf_inj (0 : Fin 1)
    winFacts0.to₀ ownSemFacts (Pipeline.PreFacts.none _) EP defs₀ 𝒱₀ m ρ main
    (hmain := fun _ => rfl)
    (hbody := fun c => (body_obligation m p OUT hb c)) (hne := fun w => by fin_cases w <;> exact Nat.succ_pos _) (harr := arr_whole0) (hstage := stage_whole0) (hshare := share_eq m p OUT)
    (hdistinct := winFacts0.arr_inj)
    (O₀ := O₀ p) (howed₀ := fun _ => rfl) (howedN := fun _ => rfl)
    (L := L) (lv := lv) (hL := L_of_ne) (hwaits := waits m p OUT)
    (G := G p) (G' := G' p) (u₀ := u₀)
    (hu₀ := by
      unfold u₀
      iintro Hu
      ihave H := (ownU_pair _ _) $$ Hu
      icases H with ⟨HP, HX⟩
      imod (fund_ring p) $$ HX with HG
      imodintro
      isplitl [HP] <;> iassumption)
    (hglob := glob p)
    (hA := fun _ _ => rfl) (hpf := fun _ k => k.elim0)
    (X := start m p) (Y := Y OUT) (Z := fun _ => iprop(emp))
    (hX := start_intro m ρ p) (hin := phi0_intro m p OUT) (hout := phi1_exit m p OUT)
    (QY := fun c s => s.mem ((c : Thread nD τ).loc main_v1) = OUT c ∧ ∀ s' : SemLoc sig, s'.isScoped .tc = false → s.sem ((c.tc : Thread nD τ), s') = 0)
    (hY := read_Y OUT)
    (hQ := fun _ h hs => ⟨fun c => ⟨(h c).2.2.1, ((h c).1 (1 : Fin 2)).trans ((dats (F := F) m p OUT 0 c).arrAt_in (1 : Fin 2) rfl _),
      ((h c).1 (0 : Fin 2)).trans ((dats (F := F) m p OUT 0 c).arrAt_in (0 : Fin 2) rfl _)⟩, sem_eq_zero hs fun c => (h c).2.2.2⟩)

end Cert.KIProof

end
-- ==== Proof.Regroup.lean ====
/-
# Regrouping what a device holds
-/
module

public import proofs.«01_k».proof.Proof.Launch
public import proofs.«01_k».proof.Proof.Steps

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over chunks, kinds, halves and cells -/

/-- A family over the eight chunks. -/
abbrev b8 (Φ : Fin 8 → sProp 𝕄) : sProp 𝕄 := bigSep Finset.univ Φ

omit [FloatOps F] in
/-- A family over the DMA cells is five families over the chunks, one for each kind. -/
theorem kinds (Φ : Fin 5 × Fin 8 → sProp 𝕄) :
    bigSep Finset.univ Φ = iprop(b8 (fun i => Φ (0, i)) ∗ b8 (fun i => Φ (1, i)) ∗ b8 (fun i => Φ (2, i)) ∗ b8 (fun i => Φ (3, i)) ∗ b8 (fun i => Φ (4, i))) := by
  rw [bigSep_univ_prod, show (Finset.univ : Finset (Fin 5)) = {0, 1, 2, 3, 4} by decide,
    bigSep_insert (by decide), bigSep_insert (by decide), bigSep_insert (by decide), bigSep_insert (by decide), bigSep_singleton]
  rfl
omit [FloatOps F] in
/-- A family over the slabs is one over the chunks of the own half and one over those of the other. -/
theorem halves (c : Dev nD) (Φ : Fin 2 × Fin 8 → sProp 𝕄) :
    bigSep Finset.univ Φ = iprop(b8 (fun i => Φ (hf c, i)) ∗ b8 (fun i => Φ (hf (py c), i))) := by
  rw [bigSep_univ_prod, show (Finset.univ : Finset (Fin 2)) = {hf c, hf (py c)} by revert c; decide,
    bigSep_insert (by revert c; decide), bigSep_singleton]
  rfl
omit [FloatOps F] in
/-- Two families, one for each half, with different contents are one family whose contents depend on the half. -/
theorem halves_pick {β : Type _} (c : Dev nD) (G : Fin 2 × Fin 8 → β → sProp 𝕄) (f g : β) :
    (iprop(b8 (fun i => G (hf c, i) f) ∗ b8 (fun i => G (hf (py c), i) g)) : sProp 𝕄)
      = bigSep (Finset.univ : Finset (Fin 2 × Fin 8)) fun p => G p (if p.1 = hf c then f else g) := by
  rw [halves c]
  simp only [hf_py_ne c, if_true, if_false]
omit [FloatOps F] in
/-- A family over a device's cells is its barrier's member and the family over its DMA cells. -/
theorem cellsOf (Φ : CI → sProp 𝕄) :
    bigSep Finset.univ Φ = iprop(Φ (.inl ()) ∗ bigSep Finset.univ (fun q : Fin 5 × Fin 8 => Φ (.inr q))) := by
  rw [BI.bigSep_univ_sum, show (Finset.univ : Finset Unit) = {()} by decide, bigSep_singleton]
  rfl

/-! ## Whole buffers and their slabs -/

section Whole
variable {ℓ : Loc nD τ sig} {T : Type} [Fintype T] {q : PosShare TreeShare}

omit [FloatOps F] in
/-- A whole buffer is its parts, where these cover it and are disjoint; -/
theorem whole_parts (K : T → Finset (Idx ℓ)) (hc : ∀ i, ∃ t, i ∈ K t) (hd : ∀ t ∈ (Finset.univ : Finset T), ∀ t' ∈ (Finset.univ : Finset T), t ≠ t' → Disjoint (K t) (K t'))
    (f : Buf (Elt F) ℓ) : ((ℓ ↦{q} f) : sProp 𝕄) = bigSep Finset.univ fun t => ℓ ↦[K t]{q} f := by
  have e : Finset.univ.biUnion K = Finset.univ := by
    ext i; simpa using hc i
  rw [← pointsTo_biUnion Finset.univ K hd, e]
omit [FloatOps F] in
/-- and parts holding different contents are the whole buffer at some contents. -/
theorem parts_whole (K : T → Finset (Idx ℓ)) (hc : ∀ i, ∃ t, i ∈ K t) (hd : ∀ t ∈ (Finset.univ : Finset T), ∀ t' ∈ (Finset.univ : Finset T), t ≠ t' → Disjoint (K t) (K t'))
    (fs : T → Buf (Elt F) ℓ) (f₀ : Buf (Elt F) ℓ) : (bigSep Finset.univ fun t => ℓ ↦[K t]{q} fs t) ⊢ (iprop(∃ f : Buf (Elt F) ℓ, ℓ ↦{q} f) : sProp 𝕄) := by
  have e : Finset.univ.biUnion K = Finset.univ := by
    ext i; simpa using hc i
  refine (pointsTo_biUnion_join Finset.univ K fs f₀ hd).trans ?_
  rw [e]
  iintro ⟨%h, -, H⟩
  iexists h; iexact H
end Whole

omit [FloatOps F] in
/-- The send buffer is the slabs of its two halves. -/
theorem slabsS (c : Dev nD) (f : Buf (Elt F) ((c : Thread nD τ).loc cc0_scratch0)) :
    ((((c : Thread nD τ).loc cc0_scratch0) ↦{fullShare} f) : sProp 𝕄) = iprop(b8 (fun i => ptS c (hf c) i fullShare f) ∗ b8 (fun i => ptS c (hf (py c)) i fullShare f)) :=
  (whole_parts (ℓ := ((c : Thread nD τ).loc cc0_scratch0)) (T := Fin 2 × Fin 8) (fun p => elS p.1 p.2) slS_mem slS_disj f).trans
    (halves c (fun p : Fin 2 × Fin 8 => ptS c p.1 p.2 fullShare f))
omit [FloatOps F] in
/-- Slabs of both halves, with whatever contents, are the send buffer with some contents. -/
theorem joinS (c : Dev nD) (f g : Buf (Elt F) ((c : Thread nD τ).loc cc0_scratch0)) :
    iprop(b8 (fun i => ptS c (hf c) i fullShare f) ∗ b8 (fun i => ptS c (hf (py c)) i fullShare g))
      ⊢ (iprop(∃ f : Buf (Elt F) ((c : Thread nD τ).loc cc0_scratch0), ((c : Thread nD τ).loc cc0_scratch0) ↦{fullShare} f) : sProp 𝕄) := by
  have e : (iprop(b8 (fun i => ptS c (hf c) i fullShare f) ∗ b8 (fun i => ptS c (hf (py c)) i fullShare g)) : sProp 𝕄)
      = bigSep (Finset.univ : Finset (Fin 2 × Fin 8)) (fun p => ptS c p.1 p.2 fullShare (if p.1 = hf c then f else g)) :=
    halves_pick c (fun p (a : Buf (Elt F) ((c : Thread nD τ).loc cc0_scratch0)) => ptS c p.1 p.2 fullShare a) f g
  rw [e]
  exact parts_whole (ℓ := ((c : Thread nD τ).loc cc0_scratch0)) (T := Fin 2 × Fin 8) (fun p => elS p.1 p.2) slS_mem slS_disj (fun p => if p.1 = hf c then f else g) f
omit [FloatOps F] in
/-- The receive buffer is the slabs of its two halves. -/
theorem slabsR (c : Dev nD) (f : Buf (Elt F) ((c : Thread nD τ).loc cc0_scratch1)) :
    ((((c : Thread nD τ).loc cc0_scratch1) ↦{fullShare} f) : sProp 𝕄) = iprop(b8 (fun i => ptR c (hf c) i fullShare f) ∗ b8 (fun i => ptR c (hf (py c)) i fullShare f)) :=
  (whole_parts (ℓ := ((c : Thread nD τ).loc cc0_scratch1)) (T := Fin 2 × Fin 8) (fun p => elR p.1 p.2) slR_mem slR_disj f).trans
    (halves c (fun p : Fin 2 × Fin 8 => ptR c p.1 p.2 fullShare f))
omit [FloatOps F] in
/-- Slabs of both halves, with whatever contents, are the receive buffer with some contents. -/
theorem joinR (c : Dev nD) (f g : Buf (Elt F) ((c : Thread nD τ).loc cc0_scratch1)) :
    iprop(b8 (fun i => ptR c (hf c) i fullShare f) ∗ b8 (fun i => ptR c (hf (py c)) i fullShare g))
      ⊢ (iprop(∃ f : Buf (Elt F) ((c : Thread nD τ).loc cc0_scratch1), ((c : Thread nD τ).loc cc0_scratch1) ↦{fullShare} f) : sProp 𝕄) := by
  have e : (iprop(b8 (fun i => ptR c (hf c) i fullShare f) ∗ b8 (fun i => ptR c (hf (py c)) i fullShare g)) : sProp 𝕄)
      = bigSep (Finset.univ : Finset (Fin 2 × Fin 8)) (fun p => ptR c p.1 p.2 fullShare (if p.1 = hf c then f else g)) :=
    halves_pick c (fun p (a : Buf (Elt F) ((c : Thread nD τ).loc cc0_scratch1)) => ptR c p.1 p.2 fullShare a) f g
  rw [e]
  exact parts_whole (ℓ := ((c : Thread nD τ).loc cc0_scratch1)) (T := Fin 2 × Fin 8) (fun p => elR p.1 p.2) slR_mem slR_disj (fun p => if p.1 = hf c then f else g) f
omit [FloatOps F] in
/-- The result is the slabs of its two halves. -/
theorem slabsO (c : Dev nD) (f : Buf (Elt F) ((c : Thread nD τ).loc main_v1)) :
    ((((c : Thread nD τ).loc main_v1) ↦{fullShare} f) : sProp 𝕄) = iprop(b8 (fun i => ptO c (hf c) i fullShare f) ∗ b8 (fun i => ptO c (hf (py c)) i fullShare f)) :=
  (whole_parts (ℓ := ((c : Thread nD τ).loc main_v1)) (T := Fin 2 × Fin 8) (fun p => elO p.1 p.2) slO_mem slO_disj f).trans
    (halves c (fun p : Fin 2 × Fin 8 => ptO c p.1 p.2 fullShare f))

/-! ## Closing the cells -/

omit [FloatOps F] in
/-- A cell past its last duty closes, its counter at zero. -/
theorem close_one (p : Plan F) (K : Dev nD × CI → ℕ) (c : Dev nD) (k : CI) (R : ℕ) (h : ∀ r, R ≤ r → p.rd.duties (cell c k) r = ∅) :
    iprop(records p K ∗ atPos ER (cell c k) R ∅ 0) ⊢ (iprop(|={Set.univ}=> semVal (cell c k) 0) : sProp 𝕄) := by
  iintro ⟨#Hr, Hat⟩
  iapply (Rounds.cell_close ER p.rd (Set.mem_univ (K (c, k))) (fun h => h) (R := R) h)
  isplitr; · iapply (inv_at p K c k); iexact Hr
  iexact Hat

omit [FloatOps F] in
/-- When every cell of a device is past its last duty, all of them close at zero. -/
theorem close_all (p : Plan F) (K : Dev nD × CI → ℕ) (c : Dev nD) (R : CI → ℕ) (h : ∀ k r, R k ≤ r → p.rd.duties (cell c k) r = ∅) :
    iprop(records p K ∗ bigSep Finset.univ fun k : CI => atPos ER (cell c k) (R k) ∅ 0) ⊢ (iprop(|={Set.univ}=> zeros c) : sProp 𝕄) := by
  unfold zeros
  exact (bigSep_with_persistent (R := records p K) fun k _ => close_one p K c k (R k) (h k)).trans (bigSep_fupd _ _)

end Cert.KIProof

end
-- ==== Proof.Edges.lean ====
/-
# The swap run: what a device holds between the phases
-/
module

public import proofs.«01_k».proof.Proof.Swap
public import proofs.«01_k».proof.Proof.Regroup

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families of one thing over the chunks -/

section Fam
variable (c : Dev nD)

omit [FloatOps F] in
/-- A family of pairs over the chunks is the pair of the two families. -/
theorem b8_sep (Φ Ψ : Fin 8 → sProp 𝕄) : bigSep (Finset.univ : Finset (Fin 8)) (fun i => iprop(Φ i ∗ Ψ i)) = iprop(bigSep Finset.univ Φ ∗ bigSep Finset.univ Ψ) := bigSep_sep _ Φ Ψ

/-- Device `c`'s positions at round `r` of its cells of kind `d`, the tokens it holds for kind `d`, and its credit there. -/
abbrev at8 (d : Fin 5) (r : ℕ) : sProp 𝕄 := b8 fun i => atPos ER (cell c (.inr (d, i))) r ∅ 0
abbrev tk8 (c' : Dev nD) (d : Fin 5) : sProp 𝕄 := b8 fun i => dutyTok ER (cell c' (.inr (d, i))) 0 false
abbrev cr8 (d : Fin 5) (n : ℕ) : sProp 𝕄 := b8 fun i => cred (tallyAt (cell c (.inr (d, i))) () n)
/-- The slabs of half `h`, holding whatever they hold. -/
abbrev anyS (h : Fin 2) : sProp 𝕄 := b8 fun i => iprop(∃ f, ptS c h i fullShare f)
abbrev anyR (h : Fin 2) : sProp 𝕄 := b8 fun i => iprop(∃ f, ptR c h i fullShare f)
abbrev anyO (h : Fin 2) : sProp 𝕄 := b8 fun i => iprop(∃ f, ptO c h i fullShare f)

omit [FloatOps F] in
/-- Slabs of the send buffer with known contents are slabs with some contents; -/
theorem forgetS (h : Fin 2) (f : Buf (Elt F) ((c : Thread nD τ).loc cc0_scratch0)) : b8 (fun i => ptS c h i fullShare f) ⊢ anyS c h := by
  have e : ∀ i : Fin 8, (ptS c h i fullShare f : sProp 𝕄) ⊢ iprop(∃ f, ptS c h i fullShare f) := fun i => by
    iintro H; iexists f; iexact H
  exact bigSep_mono fun i _ => e i
omit [FloatOps F] in
/-- so for the receive buffer, -/
theorem forgetR (h : Fin 2) (f : Buf (Elt F) ((c : Thread nD τ).loc cc0_scratch1)) : b8 (fun i => ptR c h i fullShare f) ⊢ anyR c h := by
  have e : ∀ i : Fin 8, (ptR c h i fullShare f : sProp 𝕄) ⊢ iprop(∃ f, ptR c h i fullShare f) := fun i => by
    iintro H; iexists f; iexact H
  exact bigSep_mono fun i _ => e i
omit [FloatOps F] in
/-- and for the result. -/
theorem forgetO (h : Fin 2) (f : Buf (Elt F) ((c : Thread nD τ).loc main_v1)) : b8 (fun i => ptO c h i fullShare f) ⊢ anyO c h := by
  have e : ∀ i : Fin 8, (ptO c h i fullShare f : sProp 𝕄) ⊢ iprop(∃ f, ptO c h i fullShare f) := fun i => by
    iintro H; iexists f; iexact H
  exact bigSep_mono fun i _ => e i

omit [FloatOps F] in
/-- A device's positions are its barrier's and, by kind, its DMA cells'. -/
theorem positions_eq : (positions c : sProp 𝕄)
    = iprop(atPos ER (cell c (.inl ())) 0 ∅ 0 ∗ at8 c 0 0 ∗ at8 c 1 0 ∗ at8 c 2 0 ∗ at8 c 3 0 ∗ at8 c 4 0) := by
  unfold positions
  rw [cellsOf, kinds]
omit [FloatOps F] in
/-- A device's tokens are one for each neighbour's barrier and, by kind, one for each DMA cell that it pays. -/
theorem toks_eq : (payToks c : sProp 𝕄)
    = iprop(dutyTok ER (cell (px c) (.inl ())) 0 false ∗ dutyTok ER (cell (py c) (.inl ())) 0 true
        ∗ tk8 c 0 ∗ tk8 (px c) 1 ∗ tk8 c 2 ∗ tk8 (py c) 3 ∗ tk8 c 4) := by
  unfold payToks
  rw [kinds]
  rfl
omit [FloatOps F] in
/-- A device's credit is two units of its barrier and, by kind, that of its DMA cells: only the receive cells have any. -/
theorem creds_eq (p : Plan F) : (creds p c : sProp 𝕄)
    = iprop(cred (tallyAt (cell c (.inl ())) () 2) ∗ cr8 c 0 0 ∗ cr8 c 1 p.R ∗ cr8 c 2 0 ∗ cr8 c 3 p.R ∗ cr8 c 4 0) := by
  unfold creds
  rw [cellsOf, kinds]
  rfl
end Fam

section Edges
variable (m : (ℓ : Loc nD τ sig) → Buf (Elt F) ℓ) (K : Dev nD × CI → ℕ) (c : Dev nD)

/-! ## From launch to the first phase -/

/-- What device `c` keeps through the handshake. -/
def Mid (f0 : Buf (Elt F) ((c : Thread nD τ).loc cc0_scratch0)) (f1 : Buf (Elt F) ((c : Thread nD τ).loc cc0_scratch1)) : sProp 𝕄 :=
  iprop(anyS c (hf c) ∗ tk8 c 0 ∗ tk8 (px c) 1
    ∗ (anyO c (hf c) ∗ cr8 c 1 N ∗ at8 c 1 0 ∗ tk8 c 2 ∗ tk8 (py c) 3 ∗ tk8 c 4)
    ∗ (at8 c 0 0 ∗ at8 c 2 0 ∗ at8 c 3 0 ∗ at8 c 4 0 ∗ cr8 c 3 N)
    ∗ b8 (fun i => ptS c (hf (py c)) i fullShare f0) ∗ b8 (fun i => ptR c (hf (py c)) i fullShare f1))

/-- What device `c` hands to the neighbour across the first axis at the barrier: the slabs of its receive buffer that
    this one writes. -/
theorem bar_x : ((sw m).P (px c) (.inl ()) false : sProp 𝕄) = anyR c (hf c) := by
  show (swBar (px c) false : sProp 𝕄) = _
  unfold swBar
  rw [px_px, hf_px]; rfl
/-- What it hands to the neighbour across the second axis: the slabs of its result that this one writes. -/
theorem bar_y : ((sw m).P (py c) (.inl ()) true : sProp 𝕄) = anyO c (hf (py c)) := by
  show (swBar (py c) true : sProp 𝕄) = _
  unfold swBar
  rw [py_py]; rfl

/-- At launch a device has the slabs it hands over at the barrier, the barrier's tokens, credit and position, and the rest. -/
theorem open_swap (f0 : Buf (Elt F) ((c : Thread nD τ).loc cc0_scratch0)) (f1 : Buf (Elt F) ((c : Thread nD τ).loc cc0_scratch1)) (fo : Buf (Elt F) ((c : Thread nD τ).loc main_v1)) :
    iprop(positions c ∗ payToks c ∗ creds (sw m) c ∗ (((c : Thread nD τ).loc cc0_scratch0) ↦{fullShare} f0) ∗ (((c : Thread nD τ).loc cc0_scratch1) ↦{fullShare} f1)
        ∗ (((c : Thread nD τ).loc main_v1) ↦{fullShare} fo))
      ⊢ iprop((dutyTok ER (cell (px c) (.inl ())) 0 false ∗ dutyTok ER (cell (py c) (.inl ())) 0 true)
        ∗ ((sw m).P (px c) (.inl ()) false ∗ (sw m).P (py c) (.inl ()) true)
        ∗ cred (tallyAt (cell c (.inl ())) () 2) ∗ atPos ER (cell c (.inl ())) 0 ∅ 0 ∗ Mid c f0 f1) := by
  rw [positions_eq, toks_eq, creds_eq, slabsS, slabsR, slabsO, bar_x, bar_y]
  unfold Mid
  iintro ⟨⟨Pb, P0, P1, P2, P3, P4⟩, ⟨Tx, Ty, T0, T1, T2, T3, T4⟩, ⟨Cb, -, C1, -, C3, -⟩, ⟨S1, S2⟩, ⟨R1, R2⟩, ⟨O1, O2⟩⟩
  isplitl [Tx Ty]; · isplitl [Tx]; · iexact Tx
                     iexact Ty
  isplitl [R1 O2]
  · isplitl [R1]; · iapply (forgetR c (hf c) f1); iexact R1
    iapply (forgetO c (hf (py c)) fo); iexact O2
  isplitl [Cb]; · iexact Cb
  isplitl [Pb]; · iexact Pb
  isplitl [S1]; · iapply (forgetS c (hf c) f0); iexact S1
  isplitl [T0]; · iexact T0
  isplitl [T1]; · iexact T1
  isplitl [O1 C1 P1 T2 T3 T4]
  · isplitl [O1]; · iapply (forgetO c (hf c) fo); iexact O1
    isplitl [C1]; · iexact C1
    isplitl [P1]; · iexact P1
    isplitl [T2]; · iexact T2
    isplitl [T3]; · iexact T3
    iexact T4
  isplitl [P0 P2 P3 P4 C3]
  · isplitl [P0]; · iexact P0
    isplitl [P2]; · iexact P2
    isplitl [P3]; · iexact P3
    isplitl [P4]; · iexact P4
    iexact C3
  isplitl [S2]; · iexact S2
  iexact R2

/-- What is left aside to the end, -/
def Rend (f0 : Buf (Elt F) ((c : Thread nD τ).loc cc0_scratch0)) (f1 : Buf (Elt F) ((c : Thread nD τ).loc cc0_scratch1)) : sProp 𝕄 :=
  iprop((((c : Thread nD τ).loc cc0_stg0_0) ↦{fullShare} tstg m c) ∗ atPos ER (cell c (.inl ())) (0 + 1) ∅ 0
    ∗ b8 (fun i => ptS c (hf (py c)) i fullShare f0) ∗ b8 (fun i => ptR c (hf (py c)) i fullShare f1))
/-- to the closing waits, -/
def R2 (f0 : Buf (Elt F) ((c : Thread nD τ).loc cc0_scratch0)) (f1 : Buf (Elt F) ((c : Thread nD τ).loc cc0_scratch1)) : sProp 𝕄 :=
  iprop((at8 c 0 0 ∗ at8 c 2 0 ∗ at8 c 3 0 ∗ at8 c 4 0 ∗ cr8 c 3 N) ∗ Rend m c f0 f1)
/-- and to the second phase. -/
def R1 (f0 : Buf (Elt F) ((c : Thread nD τ).loc cc0_scratch0)) (f1 : Buf (Elt F) ((c : Thread nD τ).loc cc0_scratch1)) : sProp 𝕄 :=
  iprop(levAts L lv ∗ mix (A2 c) (B2 c) 0 ∗ R2 m c f0 f1)

omit [FloatOps F] in
/-- Before the first phase: the slabs to be filled and sent, and the tokens of the copies. -/
theorem A1_all : (mix (A1 c) (B1 c) 0 : sProp 𝕄) = iprop(anyS c (hf c) ∗ anyR (px c) (hf c) ∗ tk8 c 0 ∗ tk8 (px c) 1) := by
  rw [mix_zero]; unfold A1; rw [b8_sep, b8_sep, b8_sep]
omit [FloatOps F] in
/-- Before the second phase: credit and positions of the receive cells, the slabs of both results, and the tokens of the
    copies. -/
theorem A2_all : (mix (A2 c) (B2 c) 0 : sProp 𝕄) = iprop(cr8 c 1 N ∗ at8 c 1 0 ∗ anyO (py c) (hf c) ∗ anyO c (hf c) ∗ tk8 c 2 ∗ tk8 (py c) 3 ∗ tk8 c 4) := by
  rw [mix_zero]; unfold A2; rw [b8_sep, b8_sep, b8_sep, b8_sep, b8_sep, b8_sep]
omit [FloatOps F] in
/-- After the first phase: the credit of its send cells. -/
theorem B1_all : (mix (A1 c) (B1 c) 8 : sProp 𝕄) = cr8 c 0 N := by
  rw [mix_end]; rfl
omit [FloatOps F] in
/-- After the second phase: the credit of the copies' cells, and the receive cells at their next round. -/
theorem B2_all : (mix (A2 c) (B2 c) 8 : sProp 𝕄) = iprop(cr8 c 2 N ∗ cr8 c 4 N ∗ at8 c 1 (0 + 1)) := by
  rw [mix_end]; unfold B2; rw [b8_sep, b8_sep]
/-- Before the waits on the cells of one kind: their credit and positions. -/
theorem AW_all (d : Fin 5) : (mix (AW c d) (BW m c d) 0 : sProp 𝕄) = iprop(cr8 c d N ∗ at8 c d 0) := by
  rw [mix_zero]; unfold AW; rw [b8_sep]
/-- After these waits: what the cells hand over, and their next positions. -/
theorem BW_all (d : Fin 5) : (mix (AW c d) (BW m c d) 8 : sProp 𝕄) = iprop(b8 (fun i => swPay m c (d, i)) ∗ at8 c d (0 + 1)) := by
  rw [mix_end]; unfold BW; rw [b8_sep]

/-- What device `c` gets from the neighbour across the first axis at the barrier: the slabs of that one's receive buffer,
    -/
theorem bar_got_x : ((sw m).P c (.inl ()) false : sProp 𝕄) = anyR (px c) (hf c) := rfl
/-- and from the one across the second axis: the slabs of that one's result. -/
theorem bar_got_y : ((sw m).P c (.inl ()) true : sProp 𝕄) = anyO (py c) (hf c) := rfl

/-- After the handshake the first phase can start. -/
theorem to_first (f0 : Buf (Elt F) ((c : Thread nD τ).loc cc0_scratch0)) (f1 : Buf (Elt F) ((c : Thread nD τ).loc cc0_scratch1)) :
    iprop(records (sw m) K ∗ levAts L lv ∗ staged m c ∗ Mid c f0 f1
        ∗ (∃ W, owes (c : Thread nD τ) (Oxy (sw m) c) W) ∗ atPos ER (cell c (.inl ())) (0 + 1) ∅ 0 ∗ (sw m).P c (.inl ()) false ∗ (sw m).P c (.inl ()) true)
      ⊢ iprop(H1 m K c 0 ∗ R1 m c f0 f1) := by
  unfold H1 R1 R2 Rend Mid staged
  rw [A1_all, A2_all, bar_got_x, bar_got_y]
  iintro ⟨#Hr, #Hlev, ⟨Ht, Hx⟩, ⟨S1, T0, T1, ⟨O1, C1, P1, T2, T3, T4⟩, HP, S2, R2⟩, HO, Pb, Rx, Oy⟩
  isplitl [Hx HO S1 Rx T0 T1]
  · isplitr; · iexact Hr
    isplitl [Hx]; · iexact Hx
    isplitl [HO]; · iexact HO
    isplitl [S1]; · iexact S1
    isplitl [Rx]; · iexact Rx
    isplitl [T0]; · iexact T0
    iexact T1
  isplitr; · iexact Hlev
  isplitl [C1 P1 Oy O1 T2 T3 T4]
  · isplitl [C1]; · iexact C1
    isplitl [P1]; · iexact P1
    isplitl [Oy]; · iexact Oy
    isplitl [O1]; · iexact O1
    isplitl [T2]; · iexact T2
    isplitl [T3]; · iexact T3
    iexact T4
  isplitl [HP]; · iexact HP
  isplitl [Ht]; · iexact Ht
  isplitl [Pb]; · iexact Pb
  isplitl [S2]; · iexact S2
  iexact R2

/-- After the first phase, the second; -/
theorem to_second (f0 : Buf (Elt F) ((c : Thread nD τ).loc cc0_scratch0)) (f1 : Buf (Elt F) ((c : Thread nD τ).loc cc0_scratch1)) :
    iprop(H1 m K c 8 ∗ R1 m c f0 f1)
      ⊢ iprop(H2 m K c 0 ∗ ((((c : Thread nD τ).loc cc0_stg1_0) ↦{fullShare} xstg m c) ∗ cr8 c 0 N) ∗ R2 m c f0 f1) := by
  unfold H1 H2 R1
  rw [B1_all, tail_end, add_zero]
  iintro ⟨⟨#Hr, Hx, HO, HC⟩, #Hlev, HM, HR⟩
  isplitl [HO HM]
  · isplitr; · iexact Hr
    isplitr; · iexact Hlev
    isplitl [HO]; · iexact HO
    iexact HM
  isplitl [Hx HC]
  · isplitl [Hx]; · iexact Hx
    iexact HC
  iexact HR

/-- after the second, the closing waits; -/
theorem to_waits (f0 : Buf (Elt F) ((c : Thread nD τ).loc cc0_scratch0)) (f1 : Buf (Elt F) ((c : Thread nD τ).loc cc0_scratch1)) :
    iprop(H2 m K c 8 ∗ ((((c : Thread nD τ).loc cc0_stg1_0) ↦{fullShare} xstg m c) ∗ cr8 c 0 N) ∗ R2 m c f0 f1)
      ⊢ iprop(SW m K c 0 0 0 0 ∗ (((c : Thread nD τ).loc cc0_stg1_0) ↦{fullShare} xstg m c) ∗ at8 c 1 (0 + 1) ∗ Rend m c f0 f1) := by
  unfold H2 SW R2
  rw [B2_all, AW_all, AW_all, AW_all, AW_all, tail_end]
  iintro ⟨⟨#Hr, #Hlev, HO, C2, C4, P1⟩, ⟨Hx, C0⟩, ⟨P0, P2, P3, P4, C3⟩, HR⟩
  isplitl [HO C2 C4 C0 P0 P2 P3 P4 C3]
  · isplitr; · iexact Hr
    isplitr; · iexact Hlev
    isplitl [HO]; · iexact HO
    isplitl [C0 P0]
    · isplitl [C0]; · iexact C0
      iexact P0
    isplitl [C2 P2]
    · isplitl [C2]; · iexact C2
      iexact P2
    isplitl [C3 P3]
    · isplitl [C3]; · iexact C3
      iexact P3
    isplitl [C4]; · iexact C4
    iexact P4
  isplitl [Hx]; · iexact Hx
  isplitl [P1]; · iexact P1
  iexact HR

/-- The two shares of a received slab are the slab. -/
theorem rejoin : iprop(b8 (fun i => ptR c (hf c) i fullShare.left (got m c)) ∗ b8 (fun i => ptR c (hf c) i fullShare.right (got m c)))
    ⊢ (b8 (fun i => ptR c (hf c) i fullShare (got m c)) : sProp 𝕄) :=
  (Entails.of_eq (b8_sep _ _).symm).trans (bigSep_mono fun i _ => (pointsTo_share (PosShare.mem_left_op_right fullShare)).2)

/-- The send cells of the first axis give back the sent half of the send buffer. -/
theorem pay0_all : (b8 (fun i => swPay m c (0, i)) : sProp 𝕄) = b8 (fun i => ptS c (hf c) i fullShare (own m c)) := rfl
/-- The send cells of the second axis give back one share of the received half. -/
theorem pay2_all : (b8 (fun i => swPay m c (2, i)) : sProp 𝕄) = b8 (fun i => ptR c (hf c) i fullShare.left (got m c)) := rfl
/-- The receive cells of the second axis hand over the other half of the result. -/
theorem pay3_all : (b8 (fun i => swPay m c (3, i)) : sProp 𝕄) = b8 (fun i => ptO c (hf (py c)) i fullShare (swapOut m c)) := rfl
/-- The local copies' cells hand over the own half of the result and give back the other share of the received half. -/
theorem pay4_all : (b8 (fun i => swPay m c (4, i)) : sProp 𝕄)
    = iprop(b8 (fun i => ptO c (hf c) i fullShare (swapOut m c)) ∗ b8 (fun i => ptR c (hf c) i fullShare.right (got m c))) :=
  (b8_sep (fun i => ptO c (hf c) i fullShare (swapOut m c)) (fun i => ptR c (hf c) i fullShare.right (got m c)))

/-- and after these the body is done. -/
theorem to_post (f0 : Buf (Elt F) ((c : Thread nD τ).loc cc0_scratch0)) (f1 : Buf (Elt F) ((c : Thread nD τ).loc cc0_scratch1)) :
    iprop(SW m K c 8 8 8 8 ∗ (((c : Thread nD τ).loc cc0_stg1_0) ↦{fullShare} xstg m c) ∗ at8 c 1 (0 + 1) ∗ Rend m c f0 f1)
      ⊢ iprop(|={Set.univ}=> bodyPost m (swapOut m) c) := by
  unfold SW Rend bodyPost staged scratch
  rw [BW_all, BW_all, BW_all, BW_all, pay0_all, pay2_all, pay3_all, pay4_all]
  iintro ⟨⟨#Hr, #Hlev, HO, ⟨S1, P0⟩, ⟨Rl, P2⟩, ⟨Oy, P3⟩, ⟨Ox, Rr⟩, P4⟩, Hx, P1, Ht, Pb, S2, R2⟩
  ihave HS := (joinS c (own m c) f0) $$ [S1 S2]
  · isplitl [S1]; · iexact S1
    iexact S2
  ihave R1 := (rejoin m c) $$ [Rl Rr]
  · isplitl [Rl]; · iexact Rl
    iexact Rr
  ihave HR := (joinR c (got m c) f1) $$ [R1 R2]
  · isplitl [R1]; · iexact R1
    iexact R2
  ihave Hout := (Entails.of_eq (slabsO c (swapOut m c)).symm) $$ [Ox Oy]
  · isplitl [Ox]; · iexact Ox
    iexact Oy
  ihave Hz := (close_all (sw m) K c (fun _ => 0 + 1) (fun k r hr => duties_later (sw m) _ r hr)) $$ [P0 P1 P2 P3 P4 Pb]
  · isplitr; · iexact Hr
    rw [cellsOf, kinds]
    isplitl [Pb]; · iexact Pb
    isplitl [P0]; · iexact P0
    isplitl [P1]; · iexact P1
    isplitl [P2]; · iexact P2
    isplitl [P3]; · iexact P3
    iexact P4
  imod Hz
  imodintro
  isplitl [Hout Hz HS HR]
  · isplitl [Hout]; · iexact Hout
    isplitl [Hz]; · iexact Hz
    isplitl [HS]; · iexact HS
    iexact HR
  isplitl [HO]; · iexact HO
  isplitl [Ht]; · iexact Ht
  iexact Hx

/-- The same passages with what waits for the body's end set beside. -/
theorem regroup1 (f0 : Buf (Elt F) ((c : Thread nD τ).loc cc0_scratch0)) (f1 : Buf (Elt F) ((c : Thread nD τ).loc cc0_scratch1)) (X : sProp 𝕄) :
    iprop((H1 m K c 0 ∗ R1 m c f0 f1) ∗ X) ⊢ iprop(H1 m K c (0 : Fin 8).val ∗ (R1 m c f0 f1 ∗ X)) := by
  iintro ⟨⟨H, R⟩, X⟩
  isplitl [H]; · iexact H
  isplitl [R]; · iexact R
  iexact X
/-- From the first phase to the second, with what is set beside. -/
theorem regroup2 (f0 : Buf (Elt F) ((c : Thread nD τ).loc cc0_scratch0)) (f1 : Buf (Elt F) ((c : Thread nD τ).loc cc0_scratch1)) (X : sProp 𝕄) :
    iprop(H1 m K c ((7 : Fin 8).val + 1) ∗ (R1 m c f0 f1 ∗ X))
      ⊢ iprop(H2 m K c (0 : Fin 8).val ∗ (((((c : Thread nD τ).loc cc0_stg1_0) ↦{fullShare} xstg m c) ∗ cr8 c 0 N) ∗ R2 m c f0 f1) ∗ X) := by
  iintro ⟨H, R, X⟩
  ihave H := (to_second m K c f0 f1) $$ [H R]
  · isplitl [H]; · iexact H
    iexact R
  icases H with ⟨H, R⟩
  isplitl [H]; · iexact H
  isplitl [R]; · iexact R
  iexact X
/-- From the second phase to the closing waits, with what is set beside. -/
theorem regroup3 (f0 : Buf (Elt F) ((c : Thread nD τ).loc cc0_scratch0)) (f1 : Buf (Elt F) ((c : Thread nD τ).loc cc0_scratch1)) (X : sProp 𝕄) :
    iprop(H2 m K c ((7 : Fin 8).val + 1) ∗ (((((c : Thread nD τ).loc cc0_stg1_0) ↦{fullShare} xstg m c) ∗ cr8 c 0 N) ∗ R2 m c f0 f1) ∗ X)
      ⊢ iprop(SW m K c (0 : Fin 8).val (0 : Fin 8).val (0 : Fin 8).val (0 : Fin 8).val ∗ ((((c : Thread nD τ).loc cc0_stg1_0) ↦{fullShare} xstg m c) ∗ at8 c 1 (0 + 1) ∗ Rend m c f0 f1) ∗ X) := by
  iintro ⟨H, R, X⟩
  ihave H := (to_waits m K c f0 f1) $$ [H R]
  · isplitl [H]; · iexact H
    iexact R
  icases H with ⟨H, R⟩
  isplitl [H]; · iexact H
  isplitl [R]; · iexact R
  iexact X
/-- From the closing waits to the body's end, with what is set beside. -/
theorem regroup4 (f0 : Buf (Elt F) ((c : Thread nD τ).loc cc0_scratch0)) (f1 : Buf (Elt F) ((c : Thread nD τ).loc cc0_scratch1)) (X : sProp 𝕄) :
    iprop(SW m K c ((7 : Fin 8).val + 1) ((7 : Fin 8).val + 1) ((7 : Fin 8).val + 1) ((7 : Fin 8).val + 1) ∗ ((((c : Thread nD τ).loc cc0_stg1_0) ↦{fullShare} xstg m c) ∗ at8 c 1 (0 + 1) ∗ Rend m c f0 f1) ∗ X)
      ⊢ iprop((|={Set.univ}=> bodyPost m (swapOut m) c) ∗ X) := by
  iintro ⟨H, R, X⟩
  isplitr [X]
  · iapply (to_post m K c f0 f1)
    isplitl [H]; · iexact H
    iexact R
  iexact X

/-- What a body ends with, up to an update, is handed on. -/
theorem finish {B : sProp 𝕄} {Kt : PUnit → sProp 𝕄} : iprop((|={Set.univ}=> B) ∗ (B -∗ Kt ⟨⟩)) ⊢ WP c (.ret ⟨⟩) Kt := by
  unfold WP
  rw [wp_ret]
  iintro ⟨Hp, Hk⟩
  imod Hp
  imodintro
  iapply Hk
  iexact Hp

end Edges

end Cert.KIProof

end
-- ==== Proof.SwapBody.lean ====
/-
# The body in the run in which the blocks change places
-/
module

public import proofs.«01_k».proof.Proof.Edges

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (m : (ℓ : Loc nD τ sig) → Buf (Elt F) ℓ)

/-- The staged permutation, and the entry of it that device `c` reads. -/
abbrev tB : Memref sig .tc .smem S2 .i32 := Memref.whole cc0_stg0_0
abbrev r1 (c : Dev nD) : Rect S2 := Rect.unit (s := S2) (k0_off1 c) S1.size (k0_off1_inb c)

/-- The entry of the permutation that device `c` reads. -/
def tword (c : Dev nD) : BitVec 32 := (View.read (Elt F) ((tB : Memref sig .tc .smem S2 .i32).access (r1 c)) (tstg m c) (Shape.Idx.first (show 0 < (r1 c).shape.numel from (by decide : 0 < S1.numel))) : Elt F .i32)

/-- The other place on the first mesh axis, as a word. -/
def sww (c : Dev nD) : BitVec 32 := BitVec.ofNat 32 (1 - c.val / 2)
/-- Reading the other place, the neighbour that the body names exists, -/
theorem sww_chk (c : Dev nD) : k0_chk1 c (sww c) := by revert c; decide
/-- the branch that exchanges is taken, -/
theorem sww_cond (c : Dev nD) : k0_cond1 c (sww c) = 1#1 := by revert c; decide
/-- and the branch that copies is not. -/
theorem sww_keep (c : Dev nD) : ¬ Scalar.cmpi .ne (Scalar.extui (Scalar.xori (Scalar.cmpi .ne (sww c) (Scalar.remsi (Scalar.divsi (Dev.word c) 2#32) 2#32)) 1#1)) 0#32 = 1#1 := by
  revert c; decide

/-- The first signal goes across the first axis, -/
theorem k0_dev1_px (c : Dev nD) : k0_dev1 c = (px c).val := by revert c; decide
/-- the second across the second axis. -/
theorem k0_dev2_py (c : Dev nD) : k0_dev2 c = (py c).val := by revert c; decide

/-- Where the other place is read, the first copies go across the first axis, -/
theorem k0_dev3_px (c : Dev nD) : k0_dev3 c (sww c) = (px c).val := by revert c; decide

/-- and the forwarding copies across the second. -/
theorem k0_dev11_py (c : Dev nD) : k0_dev11 c = (py c).val := by revert c; decide

variable (hpi : ∀ c, tword m c = sww c)
include hpi

/-- Where each device reads the other place the body exchanges the blocks: it ends with `swapOut` as its result. -/
theorem body_swap (c : Dev nD) (K : Dev nD × CI → ℕ) (Kt : PUnit → sProp 𝕄) :
    iprop(bodyPre m (sw m) K c ∗ (bodyPost m (swapOut m) c -∗ Kt ⟨⟩)) ⊢ WP c bodyAt Kt := by
  unfold bodyAt WP
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre ghost staged scratch
  iintro ⟨⟨⟨#Hr, Hpos, Htok⟩, Hcr, #Hlev, Hout, ⟨⟨%f0, Hs⟩, ⟨%f1, Hr1⟩⟩, ⟨%W, HO⟩, Ht, Hx⟩, Hk⟩
  iapply (wp_load_rect 𝒱₀ (c : Thread nD τ) none Set.univ (m := tB) (r := r1 c) (Finset.subset_univ _)) $$ Ht; iintro Ht
  have hw : View.read (Elt F) ((tB : Memref sig .tc .smem S2 .i32).access (r1 c)) (tstg m c) (Shape.Idx.first (show 0 < (r1 c).shape.numel from (by decide : 0 < S1.numel))) = sww c := hpi c
  rw [hw]
  simp only [wp_assume_of _ _ _ _ (d := k0_chk1.dec _ _) (sww_chk c)]
  rw [dif_pos (sww_cond c), if_neg (sww_keep c)]
  ihave Hop := (open_swap m c f0 f1 (m ((c : Thread nD τ).loc main_v1))) $$ [Hpos Htok Hcr Hs Hr1 Hout]
  · isplitl [Hpos]; · iexact Hpos
    isplitl [Htok]; · iexact Htok
    isplitl [Hcr]; · iexact Hcr
    isplitl [Hs]; · iexact Hs
    isplitl [Hr1]; · iexact Hr1
    iexact Hout
  icases Hop with ⟨Htk, Hpay, Hcb, Hpb, Hmid⟩
  iapply (handshake (sw m) K c rfl rfl (Fin.ext (k0_dev1_px c)) (Fin.ext (k0_dev2_py c))) $$ [HO Htk Hpay Hcb Hpb]
  · isplitr; · iexact Hr
    isplitr; · iexact Hlev
    isplitl [HO]; · iexists W; iexact HO
    isplitl [Htk]; · iexact Htk
    isplitl [Hpay]; · iexact Hpay
    isplitl [Hcb]; · iexact Hcb
    iexact Hpb
  iintro ⟨HO, Hpb, Hgx, Hgy⟩
  ihave H1 := (to_first m K c f0 f1) $$ [Ht Hx Hmid HO Hpb Hgx Hgy]
  · isplitr; · iexact Hr
    isplitr; · iexact Hlev
    isplitl [Ht Hx]
    · unfold staged
      isplitl [Ht]; · iexact Ht
      iexact Hx
    isplitl [Hmid]; · iexact Hmid
    isplitl [HO]; · iexact HO
    isplitl [Hpb]; · iexact Hpb
    isplitl [Hgx]; · iexact Hgx
    iexact Hgy
  icombine H1 Hk as H1
  iclear Hr Hlev
  istop
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [Prog.lift, Prog.bind_op, Prog.bind_ret, Prog.pure_eq_ret, Prog.bind_assoc]
  refine (BI.Entails.trans (regroup1 m K c f0 f1 _) ?_)
  refine iter1 m K c 0 (k0_off2_eq c 0) (k0_off3_eq c 0) (k0_off4_eq c 0) rfl (Fin.ext (k0_dev3_px c)) rfl rfl ?_
  refine iter1 m K c 1 (k0_off2_eq c 1) (k0_off3_eq c 1) (k0_off4_eq c 1) rfl (Fin.ext (k0_dev3_px c)) rfl rfl ?_
  refine iter1 m K c 2 (k0_off2_eq c 2) (k0_off3_eq c 2) (k0_off4_eq c 2) rfl (Fin.ext (k0_dev3_px c)) rfl rfl ?_
  refine iter1 m K c 3 (k0_off2_eq c 3) (k0_off3_eq c 3) (k0_off4_eq c 3) rfl (Fin.ext (k0_dev3_px c)) rfl rfl ?_
  refine iter1 m K c 4 (k0_off2_eq c 4) (k0_off3_eq c 4) (k0_off4_eq c 4) rfl (Fin.ext (k0_dev3_px c)) rfl rfl ?_
  refine iter1 m K c 5 (k0_off2_eq c 5) (k0_off3_eq c 5) (k0_off4_eq c 5) rfl (Fin.ext (k0_dev3_px c)) rfl rfl ?_
  refine iter1 m K c 6 (k0_off2_eq c 6) (k0_off3_eq c 6) (k0_off4_eq c 6) rfl (Fin.ext (k0_dev3_px c)) rfl rfl ?_
  refine iter1 m K c 7 (k0_off2_eq c 7) (k0_off3_eq c 7) (k0_off4_eq c 7) rfl (Fin.ext (k0_dev3_px c)) rfl rfl ?_
  refine (BI.Entails.trans (regroup2 m K c f0 f1 _) ?_)
  refine iter2 m K c 0 (k0_off4_eq c 0) (k0_off5_eq c 0) (Fin.ext (k0_dev11_py c)) rfl rfl rfl rfl ?_
  refine iter2 m K c 1 (k0_off4_eq c 1) (k0_off5_eq c 1) (Fin.ext (k0_dev11_py c)) rfl rfl rfl rfl ?_
  refine iter2 m K c 2 (k0_off4_eq c 2) (k0_off5_eq c 2) (Fin.ext (k0_dev11_py c)) rfl rfl rfl rfl ?_
  refine iter2 m K c 3 (k0_off4_eq c 3) (k0_off5_eq c 3) (Fin.ext (k0_dev11_py c)) rfl rfl rfl rfl ?_
  refine iter2 m K c 4 (k0_off4_eq c 4) (k0_off5_eq c 4) (Fin.ext (k0_dev11_py c)) rfl rfl rfl rfl ?_
  refine iter2 m K c 5 (k0_off4_eq c 5) (k0_off5_eq c 5) (Fin.ext (k0_dev11_py c)) rfl rfl rfl rfl ?_
  refine iter2 m K c 6 (k0_off4_eq c 6) (k0_off5_eq c 6) (Fin.ext (k0_dev11_py c)) rfl rfl rfl rfl ?_
  refine iter2 m K c 7 (k0_off4_eq c 7) (k0_off5_eq c 7) (Fin.ext (k0_dev11_py c)) rfl rfl rfl rfl ?_
  refine (BI.Entails.trans (regroup3 m K c f0 f1 _) ?_)
  refine iter3 m K c 0 rfl rfl ?_
  refine iter3 m K c 1 rfl rfl ?_
  refine iter3 m K c 2 rfl rfl ?_
  refine iter3 m K c 3 rfl rfl ?_
  refine iter3 m K c 4 rfl rfl ?_
  refine iter3 m K c 5 rfl rfl ?_
  refine iter3 m K c 6 rfl rfl ?_
  refine iter3 m K c 7 rfl rfl ?_
  refine iter4s m K c 0 rfl rfl ?_
  refine iter4r m K c 0 rfl rfl ?_
  refine iter4s m K c 1 rfl rfl ?_
  refine iter4r m K c 1 rfl rfl ?_
  refine iter4s m K c 2 rfl rfl ?_
  refine iter4r m K c 2 rfl rfl ?_
  refine iter4s m K c 3 rfl rfl ?_
  refine iter4r m K c 3 rfl rfl ?_
  refine iter4s m K c 4 rfl rfl ?_
  refine iter4r m K c 4 rfl rfl ?_
  refine iter4s m K c 5 rfl rfl ?_
  refine iter4r m K c 5 rfl rfl ?_
  refine iter4s m K c 6 rfl rfl ?_
  refine iter4r m K c 6 rfl rfl ?_
  refine iter4s m K c 7 rfl rfl ?_
  refine iter4r m K c 7 rfl rfl ?_
  refine iter5 m K c 0 rfl rfl ?_
  refine iter5 m K c 1 rfl rfl ?_
  refine iter5 m K c 2 rfl rfl ?_
  refine iter5 m K c 3 rfl rfl ?_
  refine iter5 m K c 4 rfl rfl ?_
  refine iter5 m K c 5 rfl rfl ?_
  refine iter5 m K c 6 rfl rfl ?_
  refine iter5 m K c 7 rfl rfl ?_
  refine (BI.Entails.trans (regroup4 m K c f0 f1 _) ?_)
  exact finish c
end Body

end Cert.KIProof

end
-- ==== Proof.Keep.lean ====
/-
# The run in which every block stays where it is
-/
module

public import proofs.«01_k».proof.Proof.SwapBody

@[expose] public section

noncomputable section

namespace Cert.KIProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Keep
variable (m : (ℓ : Loc nD τ sig) → Buf (Elt F) ℓ)

/-! ## The plan -/

/-- What arrives with the credit of the local copy: the result at the device's own block, and the send buffer. -/
def kpPay (c : Dev nD) : sProp 𝕄 :=
  iprop((((c : Thread nD τ).loc main_v1) ↦{fullShare} xstg m c) ∗ (((c : Thread nD τ).loc cc0_scratch0) ↦{fullShare} own m c))

/-- The plan of a run in which every block stays: the barrier hands over nothing, and of the DMA cells the first one of
    the local copies is used alone. -/
def kp : Plan F where
  D k := match k with | .inl _ => Finset.univ | .inr q => if q = (4, 0) then {false} else ∅
  A k := match k with | .inl _ => 1 | .inr _ => NW
  R := 0
  P c k d := match k with | .inl _ => iprop(emp) | .inr q => kpPay m c
  pos k := match k with | .inl _ => Nat.one_pos | .inr _ => NW_pos
  st c k d := by
    match k with
    | .inl _ => show BI.Storable _ (iprop(emp) : sProp 𝕄); infer_instance
    | .inr q =>
      show BI.Storable _ (kpPay m c)
      unfold kpPay; infer_instance

variable (K : Dev nD × CI → ℕ) (c : Dev nD)

/-- After the handshake nothing is owed. -/
theorem kp_owes : Oxy (kp m) c = 0 := by
  have hx : fx (kp m) c = fun _ => 0 := funext fun i => tallyAt_zero _ _
  have hy : fy (kp m) c = fun _ => 0 := funext fun i => tallyAt_zero _ _
  unfold Oxy tail
  rw [hx, hy]
  simp

/-! ## The one store and the one copy -/

/-- The rectangles that are the whole block, and the whole send buffer. -/
abbrev all3 : Rect S1x1024x1024 := Rect.unit (s := S1x1024x1024) ![0, 0, 0] S1x1024x1024.size inb_S1x1024x1024_S1x1024x1024_0_0_0
abbrev all2 : Rect S1024x1024 := Rect.unit (s := S1024x1024) ![0, 0] S1024x1024.size inb_S1024x1024_S1024x1024_0_0

/-- Storing the whole block into the send buffer leaves the block there. -/
theorem store_whole (X : S1x1024x1024.Idx → Elt F .bf16) (f : (cc0_scratch0 : Ref sig .tc).ty.Contents (Elt F)) :
    (sB.access all2 : View sig .tc _ _ _).write (Elt F) f
      (k0_pay1 (F := F) ((xB : Memref sig .tc .vmem S1x1024x1024 .bf16).view.readAt (Elt F) all3.toLoadRect X)) Finset.univ = flat X := by
  have e : (xB : Memref sig .tc .vmem S1x1024x1024 .bf16).view.readAt (Elt F) all3.toLoadRect X = X := by
    funext i
    show X _ = X _
    refine congrArg X (funext fun a => Fin.ext ?_)
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  rw [e, pay1_apply]
  funext i
  have hx : (sB.access all2 : View sig .tc _ _ _).emb i = i := by
    refine funext fun a => Fin.ext ?_
    match a with
    | ⟨0, _⟩ => show 0 + 1 * (i 0).val = (i 0).val; omega
    | ⟨1, _⟩ => show 0 + 1 * (i 1).val = (i 1).val; omega
  have h := View.write_emb_of_mem (v := (sB.access all2 : View sig .tc _ _ _)) (Val := Elt F) f (flat X) (Finset.mem_univ i)
  rw [hx] at h
  exact h

/-- The local copy's cell has the one duty. -/
theorem kp_mem : false ∈ (kp m).rd.duties ((c : Thread nD τ), SemLoc.dma (dq (4, 0))) 0 := by
  rw [show (kp m).rd.duties ((c : Thread nD τ), SemLoc.dma (dq (4, 0))) 0 = {false} from duties_at (kp m) c (.inr (4, 0))]
  exact Finset.mem_singleton_self _

/-- What the local copy leaves is what its credit hands over. -/
theorem kp_pay (fd : Buf (Elt F) ((c : Thread nD τ).loc main_v1)) :
    iprop((((wO).view.loc (c : Thread nD τ)) ↦[(wO).view.set]{fullShare}
        ((wO).view.write (Elt F) fd ((sB).view.read (Elt F) (own m c)) Finset.univ))
        ∗ (((sB).view.loc (c : Thread nD τ)) ↦[(sB).view.set]{fullShare} own m c))
      ⊢ (kp m).rd.payload ((c : Thread nD τ), SemLoc.dma (dq (4, 0))) 0 false := by
  have e : (kp m).rd.payload ((c : Thread nD τ), SemLoc.dma (dq (4, 0))) 0 false = kpPay m c := payload_at (kp m) c (.inr (4, 0)) false
  have ew : (wO).view.write (Elt F) fd ((sB).view.read (Elt F) (own m c)) Finset.univ = xstg m c :=
    (copy_whole_out (own m c) fd).trans (lift_flat (xstg m c : S1x1024x1024.Idx → Elt F .bf16))
  rw [e, ew, wO_set, show (sB).view.set = Finset.univ from View.set_whole cc0_scratch0]
  unfold kpPay
  exact Entails.refl _

/-! ## Closing -/

/-- The round each cell ends at. -/
def kpR : CI → ℕ
  | .inl _ => 0 + 1
  | .inr q => if q = (4, 0) then 0 + 1 else 0

/-- Past the round at which a cell ends it has no duty. -/
theorem kp_done (k : CI) (r : ℕ) (h : kpR k ≤ r) : (kp m).rd.duties (cell c k) r = ∅ := by
  rcases Nat.eq_zero_or_pos r with h0 | h0
  · subst h0
    match k with
    | .inl () => exact absurd h (by decide)
    | .inr q =>
      by_cases hq : q = (4, 0)
      · subst hq; exact absurd h (by decide)
      · exact (duties_at (kp m) c (.inr q)).trans (if_neg hq)
  · exact duties_later (kp m) _ r h0

/-- The positions but the barrier's and the local copy's. -/
def kpRest : sProp 𝕄 := bigSep (Finset.univ.erase ((4, 0) : Fin 5 × Fin 8)) fun q => atPos ER (cell c (.inr q)) 0 ∅ 0

omit [FloatOps F] in
/-- The positions at launch: the barrier's, the local copy's and the others'. -/
theorem kp_positions : (positions c : sProp 𝕄) = iprop(atPos ER (cell c (.inl ())) 0 ∅ 0 ∗ atPos ER (cell c (.inr (4, 0))) 0 ∅ 0 ∗ kpRest c) := by
  unfold positions kpRest
  rw [cellsOf, bigSep_univ_at _ ((4, 0) : Fin 5 × Fin 8)]
omit [FloatOps F] in
/-- The positions at the end: the barrier and the local copy's cell one round on, the others where they were. -/
theorem kp_final : (bigSep Finset.univ (fun k : CI => atPos ER (cell c k) (kpR k) ∅ 0) : sProp 𝕄)
    = iprop(atPos ER (cell c (.inl ())) (0 + 1) ∅ 0 ∗ atPos ER (cell c (.inr (4, 0))) (0 + 1) ∅ 0 ∗ kpRest c) := by
  have e : (bigSep (Finset.univ.erase ((4, 0) : Fin 5 × Fin 8)) (fun q => atPos ER (cell c (.inr q)) (kpR (.inr q)) ∅ 0) : sProp 𝕄) = kpRest c :=
    bigSep_congr fun q hq => by
      rw [show kpR (.inr q) = 0 from if_neg (Finset.mem_erase.mp hq).1]
  rw [cellsOf, bigSep_univ_at _ ((4, 0) : Fin 5 × Fin 8), e]
  rfl

omit [FloatOps F] in
/-- Among the local copies' tokens is that of the one copy. -/
theorem kp_tok : (tk8 c 4 : sProp 𝕄) ⊢ dutyTok ER (cell c (.inr (4, 0))) 0 false :=
  bigSep_elim (Φ := fun i : Fin 8 => (dutyTok ER (cell c (.inr (4, i))) 0 false : sProp 𝕄)) (Finset.mem_univ 0)

/-- The block is copied to the send buffer and from there to the result, and the copy is awaited. -/
theorem keep_steps {k : PUnit → Prog (TpuEff nD τ sig (Elt F) Λ₀ .tc) PUnit} {Q : PUnit → sProp 𝕄}
    (f0 : Buf (Elt F) ((c : Thread nD τ).loc cc0_scratch0)) (fo : Buf (Elt F) ((c : Thread nD τ).loc main_v1)) {q q' : DmaSem sig} (hq : q = dq (4, 0)) (hq' : q' = dq (4, 0))
    {hl : (xB : Memref sig .tc .vmem S1x1024x1024 .bf16).view.LoadsAt all3.toLoadRect} {hl3 : (sB : Memref sig .tc .vmem S1024x1024 .bf16).view.LoadsAt all2.toLoadRect}
    {hst hm hsrc hdst hsem hsrc' hdst'} :
    iprop(records (kp m) K ∗ levAts L lv ∗ (((c : Thread nD τ).loc cc0_stg1_0) ↦{fullShare} xstg m c) ∗ (((c : Thread nD τ).loc cc0_scratch0) ↦{fullShare} f0)
        ∗ (((c : Thread nD τ).loc main_v1) ↦{fullShare} fo) ∗ dutyTok ER (cell c (.inr (4, 0))) 0 false ∗ (∃ W, owes (c : Thread nD τ) 0 W)
        ∗ atPos ER (cell c (.inr (4, 0))) 0 ∅ 0)
      ⊢ iprop((((((c : Thread nD τ).loc cc0_stg1_0) ↦{fullShare} xstg m c) ∗ (∃ W, owes (c : Thread nD τ) 0 W) ∗ atPos ER (cell c (.inr (4, 0))) (0 + 1) ∅ 0 ∗ kpPay m c) -∗ WP c (k ⟨⟩) Q)
        -∗ WP c (.op (.load xB all3.toLoadRect hl) fun v => .op (.load sB all2.toLoadRect hl3) fun _ =>
          .op (.store sB all2 (k0_pay1 v) Finset.univ hst hm) fun _ => .op (.enqueueDma sB (.here wO) (.dma q) hsrc hdst hsem) fun _ =>
          .op (.waitDma2 q' sB wO hsrc' hdst') k) Q) := by
  subst hq hq'
  iintro ⟨#Hr, #Hlev, Hx, Hs, Ho, Ht, HO, Hat⟩ HK
  iapply (wp_load 𝒱₀ (c : Thread nD τ) none Set.univ (m := xB) (Finset.subset_univ _)) $$ Hx; iintro Hx
  iapply (wp_load 𝒱₀ (c : Thread nD τ) none Set.univ (m := sB) (Finset.subset_univ _)) $$ Hs; iintro Hs
  iapply (wp_store 𝒱₀ (c : Thread nD τ) none Set.univ (m := sB) (r := all2) (Mk := Finset.univ) (Finset.subset_univ _)) $$ Hs; iintro Hs
  ihave Hs := (Entails.of_eq (congrArg (fun g : Buf (Elt F) ((c : Thread nD τ).loc cc0_scratch0) => (((c : Thread nD τ).loc cc0_scratch0) ↦{fullShare} g : sProp 𝕄)) (store_whole (xstg m c) f0))) $$ Hs
  iapply (Rounds.wp_copy_pointsTo 𝒱₀ ER (kp m).rd (c : Thread nD τ) none (src := sB) (dst := wO)
      (κ := K (c, .inr (4, 0))) (r := 0) (d := false) (fs := own m c) (fd := fo)
      (kp_mem m c) () NW rfl (amount_at (kp m) c (.inr (4, 0)) false) (kp_pay m c fo)) $$ [Hs Ho Ht]
  · isplitr; · iapply (inv_at (kp m) K c (.inr (4, 0))); iexact Hr
    isplitl [Hs]; · rw [show (sB).view.set = Finset.univ from View.set_whole cc0_scratch0]; iexact Hs
    isplitl [Ho]; · rw [wO_set]; iexact Ho
    isplitl [Ht]; · iexact Ht
    iapply (reached_at (kp m) K c (.inr (4, 0))); iexact Hr
  iintro Hc
  iapply (wait_dma (kp m) K c (4, 0) rfl rfl rfl (Above.zero 3) (lvk_le (4, 0))) $$ [Hc HO Hat]
  · isplitr; · iexact Hr
    isplitr; · iexact Hlev
    isplitl [Hc]; · iexact Hc
    isplitl [HO]; · iexact HO
    iexact Hat
  iintro ⟨HO, Hat, Hp⟩
  iapply HK
  isplitl [Hx]; · iexact Hx
  isplitl [HO]; · iexact HO
  isplitl [Hat]; · iexact Hat
  ihave Hp := (show ((kp m).P c (.inr (4, 0)) false : sProp 𝕄) ⊢ kpPay m c from Entails.refl _) $$ Hp
  iexact Hp

/-! ## The body -/

/-- The device's own place on the first mesh axis, as a word. -/
def kww (c : Dev nD) : BitVec 32 := BitVec.ofNat 32 (c.val / 2)
/-- Reading the own place, the neighbour that the body would name exists, -/
theorem kww_chk (c : Dev nD) : k0_chk1 c (kww c) := by revert c; decide
/-- the branch that exchanges is not taken, -/
theorem kww_cond (c : Dev nD) : ¬ k0_cond1 c (kww c) = 1#1 := by revert c; decide
/-- and the branch that copies is. -/
theorem kww_keep (c : Dev nD) : Scalar.cmpi .ne (Scalar.extui (Scalar.xori (Scalar.cmpi .ne (kww c) (Scalar.remsi (Scalar.divsi (Dev.word c) 2#32) 2#32)) 1#1)) 0#32 = 1#1 := by
  revert c; decide

/-- Where each device reads its own place the body copies its block of `x` to its result. -/
theorem body_keep (hpi : ∀ c, tword m c = kww c) : BodyRuns m (kp m) (xstg m) := by
  intro c K Kt
  unfold bodyAt
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre ghost staged scratch
  rw [kp_positions, toks_eq, creds_eq]
  iintro ⟨⟨⟨#Hr, ⟨Pb, P4, Prest⟩, ⟨Tx, Ty, -, -, -, -, T4⟩⟩, ⟨Cb, -⟩, #Hlev, Hout, ⟨⟨%f0, Hs⟩, HR⟩, HO, Ht, Hx⟩, Hk⟩
  iapply (wp_load_rect 𝒱₀ (c : Thread nD τ) none Set.univ (m := tB) (r := r1 c) (Finset.subset_univ _)) $$ Ht; iintro Ht
  have hw : View.read (Elt F) ((tB : Memref sig .tc .smem S2 .i32).access (r1 c)) (tstg m c) (Shape.Idx.first (show 0 < (r1 c).shape.numel from (by decide : 0 < S1.numel))) = kww c := hpi c
  rw [hw]
  simp only [wp_assume_of _ _ _ _ (d := k0_chk1.dec _ _) (kww_chk c)]
  rw [dif_neg (kww_cond c), if_pos (kww_keep c)]
  iapply (handshake (kp m) K c rfl rfl (Fin.ext (k0_dev1_px c)) (Fin.ext (k0_dev2_py c))) $$ [HO Tx Ty Cb Pb]
  · isplitr; · iexact Hr
    isplitr; · iexact Hlev
    isplitl [HO]; · iexact HO
    isplitl [Tx Ty]
    · isplitl [Tx]; · iexact Tx
      iexact Ty
    isplitr
    · iapply (show (iprop(emp) : sProp 𝕄) ⊢ iprop((kp m).P (px c) (.inl ()) false ∗ (kp m).P (py c) (.inl ()) true) from BI.emp_sep.2)
      iempintro
    isplitl [Cb]; · iexact Cb
    iexact Pb
  rw [kp_owes]
  iintro ⟨HO, Pb, -, -⟩
  iapply (keep_steps m K c f0 (m ((c : Thread nD τ).loc main_v1)) rfl rfl) $$ [Hx Hs Hout T4 HO P4]
  · isplitr; · iexact Hr
    isplitr; · iexact Hlev
    isplitl [Hx]; · iexact Hx
    isplitl [Hs]; · iexact Hs
    isplitl [Hout]; · iexact Hout
    isplitl [T4]; · iapply (kp_tok c); iexact T4
    isplitl [HO]; · iexact HO
    iexact P4
  unfold kpPay
  iintro ⟨Hx, HO, P4, Hout, Hs⟩
  ihave Hz := (close_all (kp m) K c kpR (kp_done m c)) $$ [P4 Prest Pb]
  · isplitr; · iexact Hr
    rw [kp_final]
    isplitl [Pb]; · iexact Pb
    isplitl [P4]; · iexact P4
    iexact Prest
  iapply (finish (B := bodyPost m (xstg m) c) c)
  isplitr [Hk]
  · imod Hz
    imodintro
    unfold bodyPost staged scratch
    isplitl [Hout Hz Hs HR]
    · isplitl [Hout]; · iexact Hout
      isplitl [Hz]; · iexact Hz
      isplitl [Hs]; · iexists _; iexact Hs
      iexact HR
    isplitl [HO]; · iexact HO
    isplitl [Ht]; · iexact Ht
    iexact Hx
  iexact Hk

end Keep

end Cert.KIProof

end
-- ==== Proof.Run.lean ====
/-
# The two runs of the kernel under the permutation its operand names

The two preconditions say which of the two permutations every device holds. Read at their single entry they give the
two words of the operand, hence the word each device tests.
-/
module

public import proofs.«01_k».proof.Proof.Keep
public import proofs.«01_k».proof.Proof.Gen.Pre_pi_swaps_Kernel
public import proofs.«01_k».proof.Proof.Gen.Pre_pi_keeps_Kernel

@[expose] public section

noncomputable section

namespace Cert.KIProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ)

/-- Place `k` of a pair of words. -/
def at2 (k : Fin 2) : S2.Idx := fun a => ⟨k.val, by obtain rfl : a = (0 : Fin 1) := Subsingleton.elim (α := Fin 1) _ _; exact k.isLt⟩

/-- What is staged of the tensor is the whole of the device's block. -/
theorem xstg_eq (c : Dev nD) : xstg m c = m ((c : Thread nD τ).loc main_arg0) := by
  funext i
  show m ((c : Thread nD τ).loc main_arg0) _ = _
  refine congrArg _ (funext fun a => Fin.ext ?_)
  exact Pipeline.Window.rect_emb_val_of_index_zero win0_1 (0 : Fin 1) a rfl i

/-- What is staged of the permutation is the whole of it. -/
theorem tstg_eq (c : Dev nD) : tstg m c = m ((c : Thread nD τ).loc main_arg1) := by
  funext i
  show m ((c : Thread nD τ).loc main_arg1) _ = _
  refine congrArg _ (funext fun a => Fin.ext ?_)
  exact Pipeline.Window.rect_emb_val_of_index_zero win0_0 (0 : Fin 1) a rfl i

/-- The word device `c` tests is entry `c / 2` of its permutation. -/
theorem tword_eq (c : Dev nD) : tword m c = m ((c : Thread nD τ).loc main_arg1) (at2 ⟨c.val / 2, by have := c.isLt; simp only [nD] at this; omega⟩) := by
  unfold tword
  rw [tstg_eq]
  show m ((c : Thread nD τ).loc main_arg1) _ = _
  refine congrArg _ (funext fun a => Fin.ext ?_)
  obtain rfl : a = (0 : Fin 1) := Subsingleton.elim (α := Fin 1) _ _
  show k0_off1 c 0 + 1 * ((Shape.Idx.first _ : (r1 c).shape.Idx) 0).val = c.val / 2
  have hf := ((Shape.Idx.first (show 0 < (r1 c).shape.numel from (by decide : 0 < S1.numel)) : (r1 c).shape.Idx) 0).isLt
  have h1 : (r1 c).shape.size 0 = 1 := rfl
  rw [k0_off1_eq]
  simp only [Matrix.cons_val_zero]
  omega

/-- Two words compared, both comparisons true: the words agree. -/
theorem both_eq {a b u v : BitVec 32} (h : IntOp.andi (IntOp.cmpi .eq a b) (IntOp.cmpi .eq u v) = 1#1) : a = b ∧ u = v := by
  have key : ∀ p q : Bool, IntOp.andi (BitVec.ofBool p) (BitVec.ofBool q) = 1#1 → p = true ∧ q = true := by decide
  have := key (a == b) (u == v) h
  exact ⟨eq_of_beq this.1, eq_of_beq this.2⟩

/-- Entry `k` of a pair, cut out of it as a scalar. -/
theorem word_at {X S : Shape} (hX : X = S1) (hS : S = S_) (w : IVec S2 32) (k : Fin 2) (h : S2.Slices ![k.val] X) (h' : X.ShapeCasts S) (i : S.Idx) :
    shapeCast S (extractStridedSlice X ![k.val] w h) h' i = w (at2 k) := by
  subst hX hS
  refine congrArg w (funext fun a => Fin.ext ?_)
  obtain rfl : a = (0 : Fin 1) := Subsingleton.elim (α := Fin 1) _ _
  show k.val + ((Shape.reshapeEquiv h' i : S1.Idx) 0).val = k.val
  have := ((Shape.reshapeEquiv h' i : S1.Idx) 0).isLt
  have h1 : S1.size 0 = 1 := rfl
  omega

/-- The first precondition, read: the permutation is `1, 0`. -/
theorem swaps_words {x : _} {w : IVec S2 32} (h : Cert.Pre_pi_swaps_Kernel.fn (F := F) x w = fun _ => 1#1) :
    w (at2 0) = 1#32 ∧ w (at2 1) = 0#32 := by
  have h0 := both_eq (congrFun h (fun a => a.elim0))
  exact ⟨(word_at rfl rfl w 0 _ _ _).symm.trans h0.1, (word_at rfl rfl w 1 _ _ _).symm.trans h0.2⟩

/-- The second precondition, read: the permutation is `0, 1`. -/
theorem keeps_words {x : _} {w : IVec S2 32} (h : Cert.Pre_pi_keeps_Kernel.fn (F := F) x w = fun _ => 1#1) :
    w (at2 0) = 0#32 ∧ w (at2 1) = 1#32 := by
  have h0 := both_eq (congrFun h (fun a => a.elim0))
  exact ⟨(word_at rfl rfl w 0 _ _ _).symm.trans h0.1, (word_at rfl rfl w 1 _ _ _).symm.trans h0.2⟩

/-- When every device's permutation is `1, 0`, the kernel ends with the blocks exchanged, its operands as they were and
    every semaphore at zero. -/
theorem run_swap (ρ) (h : ∀ c : Dev nD, m ((c : Thread nD τ).loc main_arg1) (at2 0) = (1#32 : BitVec 32) ∧ m ((c : Thread nD τ).loc main_arg1) (at2 1) = (0#32 : BitVec 32)) :
    θ_run defs (onTc (τ := τ) main) ⟨m, fun _ => 0, ρ⟩ (fun r => Ends m (swapOut m) r ∧ r.2.sem = fun _ => 0) := by
  refine run_main m ρ (sw m) (swapOut m) (body_swap m fun c => ?_)
  rw [tword_eq]
  fin_cases c
  · exact (h _).1
  · exact (h _).1
  · exact (h _).2
  · exact (h _).2

/-- When every device's permutation is `0, 1`, the kernel ends with every block where it was, its operands as they were
    and every semaphore at zero. -/
theorem run_keep (ρ) (h : ∀ c : Dev nD, m ((c : Thread nD τ).loc main_arg1) (at2 0) = (0#32 : BitVec 32) ∧ m ((c : Thread nD τ).loc main_arg1) (at2 1) = (1#32 : BitVec 32)) :
    θ_run defs (onTc (τ := τ) main) ⟨m, fun _ => 0, ρ⟩ (fun r => Ends m (xstg m) r ∧ r.2.sem = fun _ => 0) := by
  refine run_main m ρ (kp m) (xstg m) (body_keep m fun c => ?_)
  rw [tword_eq]
  fin_cases c
  · exact (h _).1
  · exact (h _).1
  · exact (h _).2
  · exact (h _).2

end Cert.KIProof
-- ==== Proof.Value.lean ====
/-
# The values: the reference's, the kernel's, and that they agree

The reference takes the blocks in the order in which a stable sort of the permutation puts their places. For the two
permutations of two places that order is the permutation itself, so its result holds block `k r` of the tensor at place
`r`, `k` the permutation. Device `c` of the kernel holds place `c / 2`.
-/
module

public import proofs.«01_k».proof.Proof.Run
public import proofs.«01_k».proof.Proof.Gen.ReferenceIdeal.Run
public import Idealize.ShloMosaic.Lib.Layout
public import Idealize.ShloMosaic.PureOps.Ideal

@[expose] public section

noncomputable section

namespace Cert.RefProof

open Cert.ReferenceIdeal Cert.ReferenceIdeal.Gen
open Idealize.ShloMosaic
open Idealize.ShloMosaic.TcCoe
open Idealize.SL.Sem

/-- The places in the order a stable sort of the permutation gives them. -/
abbrev order (w : IVec S2 32) : IVec S2 32 := (Host.sort2 S2 0 comparator_i32_i32_d0 w (iotaInDim S2 32 0)).2

/-- The column of places the reference reads blocks at: the order, a negative place counted from the end. -/
abbrev places (w : IVec S2 32) : IVec S2x1 32 :=
  broadcastInDim S2x1 ![0] bcast_S2_S2x1_0 (select (cmpi .slt (order w) (broadcastInDim S2 ![] bcast_S_S2 (constantI S_ 32 0#32)))
    (addi (order w) (broadcastInDim S2 ![] bcast_S_S2 (constantI S_ 32 2#32))) (order w))

/-- The permutation `k` as a pair of words. -/
def words (k : Fin 2 → Fin 2) : IVec S2 32 := fun i => BitVec.ofNat 32 (k (i 0)).val

/-- A pair of words is the permutation `k` when its two entries are. -/
theorem eq_words {w : IVec S2 32} {k : Fin 2 → Fin 2} (h0 : w (Cert.KIProof.at2 0) = BitVec.ofNat 32 (k 0).val)
    (h1 : w (Cert.KIProof.at2 1) = BitVec.ofNat 32 (k 1).val) : w = words k := by
  have key : ∀ r : Fin 2, w (Cert.KIProof.at2 r) = BitVec.ofNat 32 (k r).val := by
    intro r; fin_cases r <;> assumption
  funext i
  have hi : i = Cert.KIProof.at2 (i 0) := by
    funext a; obtain rfl : a = (0 : Fin 1) := Subsingleton.elim (α := Fin 1) _ _; rfl
  exact (congrArg w hi).trans (key (i 0))

/-- The exchange of the two places is its own order, -/
theorem places_swap : places (words ![1, 0]) = fun i => BitVec.ofNat 32 ((![1, 0] : Fin 2 → Fin 2) (i 0)).val := by decide
/-- and so is the permutation that moves nothing. -/
theorem places_keep : places (words ![0, 1]) = fun i => BitVec.ofNat 32 ((![0, 1] : Fin 2 → Fin 2) (i 0)).val := by decide

/-- Block `k` in place of the index's own. -/
def atBlock (k : Fin 2) (j : S2x1024x1024.Idx) : S2x1024x1024.Idx := Function.update j (0 : Fin 3) k

/-- Blocks taken at the places `k` names: place `r` of the result holds block `k r`. -/
theorem taken {α : Type} (X : S2x1024x1024.Idx → α) (k : Fin 2 → Fin 2) (j : S2x1024x1024.Idx) :
    Host.gather gather_S2x1024x1024_S2x1_S2x1024x1024_12_0_n_n_0_1_110241024 X (fun i : S2x1.Idx => BitVec.ofNat 32 (k (i 0)).val) j
      = X (atBlock (k (j 0)) j) := by
  refine congrArg X (funext fun a => Fin.ext ?_)
  have hk : ∀ r : Fin 2, min (BitVec.ofNat 32 r.val).toInt.toNat (2 - 1) = r.val := by decide
  match a with
  | ⟨0, _⟩ => exact hk (k (j 0))
  | ⟨1, _⟩ => exact Nat.zero_add _
  | ⟨2, _⟩ => exact Nat.zero_add _

/-- The tensor with its blocks taken in the order `k`. -/
def arranged {α : Type} (k : Fin 2 → Fin 2) (X : S2x1024x1024.Idx → α) : S2x1024x1024.Idx → α := fun j => X (atBlock (k (j 0)) j)

/-- When its permutation is `k`, which is its own order, the reference ends with the blocks taken in the order `k`, and its
    operands as they were. -/
theorem run_ref (k : Fin 2 → Fin 2) (hk : places (words k) = fun i => BitVec.ofNat 32 (k (i 0)).val)
    (m : (ℓ : Loc nD τ sig) → Buf (Elt Ideal) ℓ) (ρ : Dev nD → PrngReg) (hw : m (((0 : Dev nD).tc : Thread nD τ).loc main_arg1) = words k) :
    θ_run defs (onTc (τ := τ) (main (F := Ideal))) ⟨m, fun _ => 0, ρ⟩ fun r =>
      r.2.mem (((0 : Dev nD).tc : Thread nD τ).loc main_v9) = arranged k (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) := by
  refine (θ_run defs _ _).mono (fun r h => ⟨(h 0).1.trans ?_, (h 0).2⟩) (Value.run (F := Ideal) m ρ)
  show Host.gather gather_S2x1024x1024_S2x1_S2x1024x1024_12_0_n_n_0_1_110241024 (m (((0 : Dev nD).tc : Thread nD τ).loc main_arg0))
    (places (m (((0 : Dev nD).tc : Thread nD τ).loc main_arg1))) = _
  rw [hw, hk]
  exact funext fun j => taken _ k j

/-- The block of the rearranged tensor that device `c` holds is the block, before, of a device `d` at the place `k` puts
    there. -/
theorem block_arranged {α : Type} (k : Fin 2 → Fin 2) (X : S2x1024x1024.Idx → α) (c d : Dev 4)
    (h : d.val / 2 = (k ⟨c.val / 2, by have := c.isLt; omega⟩).val) :
    Layout.blockN ⟨3, ![1, 1024, 1024]⟩ ⟨3, ![2, 1024, 1024]⟩ (Layout.meshBlock [2, 2] ![[0], [], []] c) (arranged k X)
      = Layout.blockN ⟨3, ![1, 1024, 1024]⟩ ⟨3, ![2, 1024, 1024]⟩ (Layout.meshBlock [2, 2] ![[0], [], []] d) X := by
  funext i
  simp only [Layout.blockN_apply]
  refine congrArg X (funext fun a => Fin.ext ?_)
  have hi : (i 0).val = 0 := by have h : (i 0).val < 1 := (i 0).isLt; omega
  have hc : ∀ e : Dev 4, Layout.meshLin [2, 2] e.val [0] = e.val / 2 := by decide
  match a with
  | ⟨0, _⟩ =>
    show (k ⟨Layout.meshLin [2, 2] c.val [0] * 1 + (i 0).val, _⟩).val = Layout.meshLin [2, 2] d.val [0] * 1 + (i 0).val
    simp only [hc, hi, Nat.mul_one, Nat.add_zero, h]
  | ⟨1, _⟩ => rfl
  | ⟨2, _⟩ => rfl

end Cert.RefProof

namespace Cert.KIProof

open Cert.KernelIdeal Cert.KernelIdeal.Gen
open Idealize.ShloMosaic
open Idealize.ShloMosaic.TcCoe
open Idealize.SL.Sem

variable (m : (ℓ : Loc nD τ sig) → Buf (Elt Ideal) ℓ) (X : Cert.ReferenceIdeal.S2x1024x1024.Idx → Elt Ideal .bf16)

/-- The whole tensor cut over the mesh: the block of it that device `c` holds. -/
abbrev cut (c : Dev nD) : S1x1024x1024.Idx → Elt Ideal .bf16 :=
  Layout.blockN ⟨3, ![1, 1024, 1024]⟩ ⟨3, ![2, 1024, 1024]⟩ (Layout.meshBlock [2, 2] ![[0], [], []] c) X

/-- When every device holds its block of a tensor, the exchanged blocks are those of the tensor with its two blocks
    exchanged. -/
theorem swapOut_eq (hX : ∀ c : Dev nD, m ((c : Thread nD τ).loc main_arg0) = cut X c) (c : Dev nD) :
    swapOut m c = cut (Cert.RefProof.arranged ![1, 0] X) c := by
  have hx : ∀ d : Dev nD, d.val / 2 = ((![1, 0] : Fin 2 → Fin 2) ⟨c.val / 2, by have h : c.val < 4 := c.isLt; omega⟩).val →
      (xstg m d : S1x1024x1024.Idx → Elt Ideal .bf16) = cut (Cert.RefProof.arranged ![1, 0] X) c := fun d h =>
    ((xstg_eq m d).trans (hX d)).trans (Cert.RefProof.block_arranged ![1, 0] X c d h).symm
  have h1 : ∀ c : Dev nD, (px c).val / 2 = ((![1, 0] : Fin 2 → Fin 2) ⟨c.val / 2, by have h : c.val < 4 := c.isLt; omega⟩).val := by decide
  have h2 : ∀ c : Dev nD, (px (py c)).val / 2 = ((![1, 0] : Fin 2 → Fin 2) ⟨c.val / 2, by have h : c.val < 4 := c.isLt; omega⟩).val := by decide
  funext i
  show (if _ then _ else _) = _
  split
  · exact congrFun (hx (px c) (h1 c)) i
  · exact congrFun (hx (px (py c)) (h2 c)) i

/-- When every device holds its block of a tensor, the blocks left in place are those of the tensor. -/
theorem xstg_cut (hX : ∀ c : Dev nD, m ((c : Thread nD τ).loc main_arg0) = cut X c) (c : Dev nD) :
    xstg m c = cut (Cert.RefProof.arranged ![0, 1] X) c :=
  ((xstg_eq m c).trans (hX c)).trans (Cert.RefProof.block_arranged ![0, 1] X c c ((by decide : ∀ c : Dev nD, c.val / 2 = ((![0, 1] : Fin 2 → Fin 2) ⟨c.val / 2, by have h : c.val < 4 := c.isLt; omega⟩).val) c)).symm

end Cert.KIProof
-- ==== Proof.Claims.lean ====
/-
# The claims, from the runs

Each claim is one of the two runs of the kernel (Run.lean) or the run of the reference (Value.lean), read at what the claim
names. The kernel as given takes its runs from the kernel for exact arithmetic, the same program (Same.lean).
-/
module

public import proofs.«01_k».proof.Defs
public import proofs.«01_k».proof.Proof.Same
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_pi_swaps_ReferenceIdeal
public import proofs.«01_k».proof.Proof.Gen.Pre_pi_keeps_ReferenceIdeal
public import Idealize.ShloMosaic.PureOps.BitExact

@[expose] public section

noncomputable section

namespace Cert.ClaimsProof

open Idealize.ShloMosaic Idealize.SL.Sem
open Cert.KIProof Cert.RefProof

/-! ## Frames -/

/-- The kernel for exact arithmetic runs, keeps its operands and ends with every semaphore at zero when the blocks change
    places; -/
theorem frame_ideal_swap : Cert.quiescent_KernelIdeal := fun m g h =>
  (θ_run Cert.KernelIdeal.defs _ _).mono (fun _ e => ⟨fun c => (e.1 c).2, e.2⟩) (run_swap m g fun c => swaps_words (h c))
/-- and when they stay. -/
theorem frame_ideal_keep : Cert.quiescent_KernelIdeal_pre_pi_keeps_Kernel := fun m g h =>
  (θ_run Cert.KernelIdeal.defs _ _).mono (fun _ e => ⟨fun c => (e.1 c).2, e.2⟩) (run_keep m g fun c => keeps_words (h c))
/-- The kernel as given likewise, when the blocks change places; -/
theorem frame_swap : Cert.quiescent_Kernel := fun m g h =>
  run_same _ _ ((θ_run Cert.KernelIdeal.defs _ _).mono (fun _ e => ⟨fun c => (e.1 c).2, e.2⟩) (run_swap (F := Bits) m g fun c => swaps_words (h c)))
/-- and when they stay. -/
theorem frame_keep : Cert.quiescent_Kernel_pre_pi_keeps_Kernel := fun m g h =>
  run_same _ _ ((θ_run Cert.KernelIdeal.defs _ _).mono (fun _ e => ⟨fun c => (e.1 c).2, e.2⟩) (run_keep (F := Bits) m g fun c => keeps_words (h c)))

/-- The reference runs and keeps its operands, whatever they are; it has no semaphore. -/
theorem frame_ref : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)
/-- So it does when the permutation is the exchange, -/
theorem frame_ref_swap : Cert.quiescent_ReferenceIdeal_pre_pi_swaps_ReferenceIdeal := fun m g _ => frame_ref m g trivial
/-- and when it moves nothing. -/
theorem frame_ref_keep : Cert.quiescent_ReferenceIdeal_pre_pi_keeps_ReferenceIdeal := fun m g _ => frame_ref m g trivial

/-! ## Values -/

/-- When the permutation is the exchange, the kernel for exact arithmetic and the reference end with the same tensor: the
    two blocks exchanged. -/
theorem algebraic_swap : Cert.algebraic_KernelIdeal_ReferenceIdeal := by
  intro m g m' g' hpre hag
  have hw := fun c => swaps_words (hpre c)
  have hw' : m' (((0 : Dev Cert.ReferenceIdeal.nD).tc : Thread Cert.ReferenceIdeal.nD Cert.ReferenceIdeal.τ).loc Cert.ReferenceIdeal.main_arg1) = words ![1, 0] :=
    (hag 0).2.symm.trans (eq_words (hw 0).1 (hw 0).2)
  refine ⟨arranged ![1, 0] (m' (((0 : Dev Cert.ReferenceIdeal.nD).tc : Thread Cert.ReferenceIdeal.nD Cert.ReferenceIdeal.τ).loc Cert.ReferenceIdeal.main_arg0)), ?_, run_ref ![1, 0] places_swap m' g' hw'⟩
  exact (θ_run Cert.KernelIdeal.defs _ _).mono (fun _ e c => ⟨(e.1 c).1.trans (swapOut_eq m _ (fun d => (hag d).1) c), (e.1 c).2⟩) (run_swap m g hw)

/-- When the permutation moves nothing, the kernel for exact arithmetic and the reference end with the same tensor: the one
    they were given. -/
theorem algebraic_keep : Cert.algebraic_KernelIdeal_ReferenceIdeal_pre_pi_keeps_Kernel := by
  intro m g m' g' hpre hag
  have hw := fun c => keeps_words (hpre c)
  have hw' : m' (((0 : Dev Cert.ReferenceIdeal.nD).tc : Thread Cert.ReferenceIdeal.nD Cert.ReferenceIdeal.τ).loc Cert.ReferenceIdeal.main_arg1) = words ![0, 1] :=
    (hag 0).2.symm.trans (eq_words (hw 0).1 (hw 0).2)
  refine ⟨arranged ![0, 1] (m' (((0 : Dev Cert.ReferenceIdeal.nD).tc : Thread Cert.ReferenceIdeal.nD Cert.ReferenceIdeal.τ).loc Cert.ReferenceIdeal.main_arg0)), ?_, run_ref ![0, 1] places_keep m' g' hw'⟩
  exact (θ_run Cert.KernelIdeal.defs _ _).mono (fun _ e c => ⟨(e.1 c).1.trans (xstg_cut m _ (fun d => (hag d).1) c), (e.1 c).2⟩) (run_keep m g hw)

end Cert.ClaimsProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pi_swaps_Kernel
public import proofs.«01_k».proof.Proof.Gen.Pre_pi_keeps_Kernel
public import proofs.«01_k».proof.Proof.Gen.Pre_pi_swaps_ReferenceIdeal
public import proofs.«01_k».proof.Proof.Gen.Pre_pi_keeps_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of this certificate: the frames of the three programs, that the second is the first for exact arithmetic, and
    that kernel and reference end with the same tensor. -/
theorem claim : Cert.Claim := ⟨Cert.Kernel.Gen.facts, Cert.KernelIdeal.Gen.facts, Cert.ReferenceIdeal.Gen.facts, Cert.Pre_pi_swaps_Kernel.Gen.facts, Cert.Pre_pi_keeps_Kernel.Gen.facts, Cert.Pre_pi_swaps_ReferenceIdeal.Gen.facts, Cert.Pre_pi_keeps_ReferenceIdeal.Gen.facts, ClaimsProof.frame_swap, ClaimsProof.frame_keep, ClaimsProof.frame_ideal_swap, ClaimsProof.frame_ideal_keep,
  ClaimsProof.frame_ref, ClaimsProof.frame_ref_swap, ClaimsProof.frame_ref_keep, trivial,
  ClaimsProof.algebraic_swap, ClaimsProof.algebraic_keep⟩

end Cert.Proof

end
